-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_wrap [hPre_no_wrap : Cert.Pre_no_wrap.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrap [hPre_no_wrap : Cert.Pre_no_wrap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_wrap [hKernelIdeal : Cert.KernelIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_wrap [hReferenceIdeal : Cert.ReferenceIdeal.Facts] [hPre_no_wrap : Cert.Pre_no_wrap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_wrap [hKernelIdeal : Cert.KernelIdeal.Facts] [hReferenceIdeal : Cert.ReferenceIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_wrap : Cert.Pre_no_wrap.Facts),
    quiescent_Kernel (hKernel := hKernel)
    ∧ quiescent_KernelIdeal (hKernelIdeal := hKernelIdeal)
    ∧ quiescent_KernelIdeal_pre_no_wrap (hKernelIdeal := hKernelIdeal) (hPre_no_wrap := hPre_no_wrap)
    ∧ quiescent_ReferenceIdeal (hReferenceIdeal := hReferenceIdeal)
    ∧ quiescent_ReferenceIdeal_pre_no_wrap (hReferenceIdeal := hReferenceIdeal) (hPre_no_wrap := hPre_no_wrap)
    ∧ preserves_Kernel_KernelIdeal
    ∧ algebraic_KernelIdeal_ReferenceIdeal_pre_no_wrap (hKernelIdeal := hKernelIdeal) (hReferenceIdeal := hReferenceIdeal) (hPre_no_wrap := hPre_no_wrap)
-- ==== Pre_no_wrap.lean ====
abbrev S16x2048x80 : Shape := ⟨3, ![16, 2048, 80]⟩
abbrev S16 : Shape := ⟨1, ![16]⟩
abbrev S1024x80x3 : Shape := ⟨3, ![1024, 80, 3]⟩
abbrev S1024 : Shape := ⟨1, ![1024]⟩
abbrev S1024x512x3 : Shape := ⟨3, ![1024, 512, 3]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x80 .f32) (main_arg1 : IVec S16 32) (main_arg2 : FVec F S1024x80x3 .f32) (main_arg3 : FVec F S1024 .f32) (main_arg4 : FVec F S1024x512x3 .f32) (main_arg5 : FVec F S1024 .f32) : IVec S16 1 :=
  let main_c : IVec S_ 32 := constantI S_ 32 2147483647#32
  let main_v0 : IVec S16 32 := broadcastInDim S16 ![] bcast_S_S16 main_c
  let main_v1 : IVec S16 1 := cmpi .slt main_arg1 main_v0
  main_v1
-- ==== Kernel.lean ====
abbrev S16x2048x80 : Shape := ⟨3, ![16, 2048, 80]⟩
abbrev S16 : Shape := ⟨1, ![16]⟩
abbrev S1024x80x3 : Shape := ⟨3, ![1024, 80, 3]⟩
abbrev S1024 : Shape := ⟨1, ![1024]⟩
abbrev S1024x512x3 : Shape := ⟨3, ![1024, 512, 3]⟩
abbrev S16x512x320 : Shape := ⟨3, ![16, 512, 320]⟩
abbrev S3x80x1024 : Shape := ⟨3, ![3, 80, 1024]⟩
abbrev S240x1024 : Shape := ⟨2, ![240, 1024]⟩
abbrev S_ : Shape := ⟨0, ![]⟩
abbrev S320x2048 : Shape := ⟨2, ![320, 2048]⟩
abbrev S1 : Shape := ⟨1, ![1]⟩
abbrev S2 : Shape := ⟨1, ![2]⟩
abbrev S160x1024 : Shape := ⟨2, ![160, 1024]⟩
abbrev S80x1024 : Shape := ⟨2, ![80, 1024]⟩
abbrev S3x512x1024 : Shape := ⟨3, ![3, 512, 1024]⟩
abbrev S1536x1024 : Shape := ⟨2, ![1536, 1024]⟩
abbrev S512x1024 : Shape := ⟨2, ![512, 1024]⟩
abbrev S1024x1024 : Shape := ⟨2, ![1024, 1024]⟩
abbrev S1x1024 : Shape := ⟨2, ![1, 1024]⟩
abbrev S512x8192 : Shape := ⟨2, ![512, 8192]⟩
abbrev S8x512x320 : Shape := ⟨3, ![8, 512, 320]⟩
abbrev S512x4096 : Shape := ⟨2, ![512, 4096]⟩
abbrev S1x512x320 : Shape := ⟨3, ![1, 512, 320]⟩
abbrev S512x320 : Shape := ⟨2, ![512, 320]⟩
abbrev S512x2048 : Shape := ⟨2, ![512, 2048]⟩
abbrev S512x80 : Shape := ⟨2, ![512, 80]⟩
abbrev S1x80 : Shape := ⟨2, ![1, 80]⟩
abbrev S511x80 : Shape := ⟨2, ![511, 80]⟩
abbrev S512x512 : Shape := ⟨2, ![512, 512]⟩
abbrev S1x512 : Shape := ⟨2, ![1, 512]⟩
abbrev S511x512 : Shape := ⟨2, ![511, 512]⟩
abbrev S512x16x512 : Shape := ⟨3, ![512, 16, 512]⟩

abbrev nBuf : Space → Nat
  | .hbm => 36
  | .vmem => 10
  | .smem => 2
  | _ => 0

abbrev bufTy : (tb : Table) → Fin (tcTables nBuf tb) → BufTy
  | .hbm, ⟨0, _⟩ => ⟨S16x2048x80, .f32⟩
  | .hbm, ⟨1, _⟩ => ⟨S16, .i32⟩
  | .hbm, ⟨2, _⟩ => ⟨S1024x80x3, .f32⟩
  | .hbm, ⟨3, _⟩ => ⟨S1024, .f32⟩
  | .hbm, ⟨4, _⟩ => ⟨S1024x512x3, .f32⟩
  | .hbm, ⟨5, _⟩ => ⟨S1024, .f32⟩
  | .hbm, ⟨6, _⟩ => ⟨S16x512x320, .f32⟩
  | .hbm, ⟨7, _⟩ => ⟨S3x80x1024, .f32⟩
  | .hbm, ⟨8, _⟩ => ⟨S240x1024, .f32⟩
  | .hbm, ⟨9, _⟩ => ⟨S240x1024, .bf16⟩
  | .hbm, ⟨10, _⟩ => ⟨S_, .bf16⟩
  | .hbm, ⟨11, _⟩ => ⟨S320x2048, .bf16⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S320x2048, .bf16⟩
  | .hbm, ⟨18, _⟩ => ⟨S160x1024, .bf16⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S320x2048, .bf16⟩
  | .hbm, ⟨25, _⟩ => ⟨S80x1024, .bf16⟩
  | .hbm, ⟨26, _⟩ => ⟨S1024x512x3, .bf16⟩
  | .hbm, ⟨27, _⟩ => ⟨S3x512x1024, .bf16⟩
  | .hbm, ⟨28, _⟩ => ⟨S1536x1024, .bf16⟩
  | .hbm, ⟨29, _⟩ => ⟨S512x1024, .bf16⟩
  | .hbm, ⟨30, _⟩ => ⟨S1024x1024, .bf16⟩
  | .hbm, ⟨31, _⟩ => ⟨S16, .i32⟩
  | .hbm, ⟨32, _⟩ => ⟨S1x1024, .f32⟩
  | .hbm, ⟨33, _⟩ => ⟨S1x1024, .f32⟩
  | .hbm, ⟨34, _⟩ => ⟨S512x8192, .f32⟩
  | .hbm, ⟨35, _⟩ => ⟨S512x16x512, .f32⟩
  | .local _ .vmem, ⟨0, _⟩ => ⟨S8x512x320, .f32⟩
  | .local _ .vmem, ⟨1, _⟩ => ⟨S8x512x320, .f32⟩
  | .local _ .vmem, ⟨2, _⟩ => ⟨S320x2048, .bf16⟩
  | .local _ .vmem, ⟨3, _⟩ => ⟨S80x1024, .bf16⟩
  | .local _ .vmem, ⟨4, _⟩ => ⟨S1x1024, .f32⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S512x4096, .f32⟩
  | .local _ .vmem, ⟨9, _⟩ => ⟨S512x4096, .f32⟩
  | .local _ .smem, ⟨0, _⟩ => ⟨S16, .i32⟩
  | .local _ .smem, ⟨1, _⟩ => ⟨S16, .i32⟩
  | _, _ => ⟨S16x2048x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem7_1 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg2 : BitVec 32 := Scf.iv c0_i32 c1_i32 k0_t1
  let v1 : Index := Scalar.indexCast arg2
  ![v1.toNat]
abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x512x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S320x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S80x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S16x2048x80 : Shape := ⟨3, ![16, 2048, 80]⟩
abbrev S16 : Shape := ⟨1, ![16]⟩
abbrev S1024x80x3 : Shape := ⟨3, ![1024, 80, 3]⟩
abbrev S1024 : Shape := ⟨1, ![1024]⟩
abbrev S1024x512x3 : Shape := ⟨3, ![1024, 512, 3]⟩
abbrev S16x80x2048 : Shape := ⟨3, ![16, 80, 2048]⟩
abbrev S_ : Shape := ⟨0, ![]⟩
abbrev S16x80x2050 : Shape := ⟨3, ![16, 80, 2050]⟩
abbrev S16x80x1024 : Shape := ⟨3, ![16, 80, 1024]⟩
abbrev S1024x80x1 : Shape := ⟨3, ![1024, 80, 1]⟩
abbrev S1024x80 : Shape := ⟨2, ![1024, 80]⟩
abbrev S1024x16x1024 : Shape := ⟨3, ![1024, 16, 1024]⟩
abbrev S16x1024x1024 : Shape := ⟨3, ![16, 1024, 1024]⟩
abbrev S1x1024x1 : Shape := ⟨3, ![1, 1024, 1]⟩
abbrev S16x512x1024 : Shape := ⟨3, ![16, 512, 1024]⟩
abbrev S16x512x1026 : Shape := ⟨3, ![16, 512, 1026]⟩
abbrev S16x512x512 : Shape := ⟨3, ![16, 512, 512]⟩
abbrev S1024x512x1 : Shape := ⟨3, ![1024, 512, 1]⟩
abbrev S1024x512 : Shape := ⟨2, ![1024, 512]⟩
abbrev S1024x16x512 : Shape := ⟨3, ![1024, 16, 512]⟩
abbrev S16x1024x512 : Shape := ⟨3, ![16, 1024, 512]⟩
abbrev S512x16x512 : Shape := ⟨3, ![512, 16, 512]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x80, .f32⟩
  | .hbm, ⟨1, _⟩ => ⟨S16, .i32⟩
  | .hbm, ⟨2, _⟩ => ⟨S1024x80x3, .f32⟩
  | .hbm, ⟨3, _⟩ => ⟨S1024, .f32⟩
  | .hbm, ⟨4, _⟩ => ⟨S1024x512x3, .f32⟩
  | .hbm, ⟨5, _⟩ => ⟨S1024, .f32⟩
  | .hbm, ⟨6, _⟩ => ⟨S16x80x2048, .f32⟩
  | .hbm, ⟨7, _⟩ => ⟨S_, .i32⟩
  | .hbm, ⟨8, _⟩ => ⟨S_, .f32⟩
  | .hbm, ⟨9, _⟩ => ⟨S16x80x2050, .f32⟩
  | .hbm, ⟨10, _⟩ => ⟨S16x80x1024, .f32⟩
  | .hbm, ⟨11, _⟩ => ⟨S1024x80x1, .f32⟩
  | .hbm, ⟨12, _⟩ => ⟨S1024x80, .f32⟩
  | .hbm, ⟨13, _⟩ => ⟨S1024x16x1024, .f32⟩
  | .hbm, ⟨14, _⟩ => ⟨S16x1024x1024, .f32⟩
  | .hbm, ⟨15, _⟩ => ⟨S_, .f32⟩
  | .hbm, ⟨16, _⟩ => ⟨S16x1024x1024, .f32⟩
  | .hbm, ⟨17, _⟩ => ⟨S16x1024x1024, .f32⟩
  | .hbm, ⟨18, _⟩ => ⟨S16x80x1024, .f32⟩
  | .hbm, ⟨19, _⟩ => ⟨S1024x80x1, .f32⟩
  | .hbm, ⟨20, _⟩ => ⟨S1024x80, .f32⟩
  | .hbm, ⟨21, _⟩ => ⟨S1024x16x1024, .f32⟩
  | .hbm, ⟨22, _⟩ => ⟨S16x1024x1024, .f32⟩
  | .hbm, ⟨23, _⟩ => ⟨S16x1024x1024, .f32⟩
  | .hbm, ⟨24, _⟩ => ⟨S16x80x1024, .f32⟩
  | .hbm, ⟨25, _⟩ => ⟨S1024x80x1, .f32⟩
  | .hbm, ⟨26, _⟩ => ⟨S1024x80, .f32⟩
  | .hbm, ⟨27, _⟩ => ⟨S1024x16x1024, .f32⟩
  | .hbm, ⟨28, _⟩ => ⟨S16x1024x1024, .f32⟩
  | .hbm, ⟨29, _⟩ => ⟨S16x1024x1024, .f32⟩
  | .hbm, ⟨30, _⟩ => ⟨S1x1024x1, .f32⟩
  | .hbm, ⟨31, _⟩ => ⟨S16x1024x1024, .f32⟩
  | .hbm, ⟨32, _⟩ => ⟨S16x1024x1024, .f32⟩
  | .hbm, ⟨33, _⟩ => ⟨S16x512x1024, .f32⟩
  | .hbm, ⟨34, _⟩ => ⟨S16x512x1024, .f32⟩
  | .hbm, ⟨35, _⟩ => ⟨S16x512x1024, .f32⟩
  | .hbm, ⟨36, _⟩ => ⟨S16x512x1024, .f32⟩
  | .hbm, ⟨37, _⟩ => ⟨S_, .f32⟩
  | .hbm, ⟨38, _⟩ => ⟨S16x512x1024, .f32⟩
  | .hbm, ⟨39, _⟩ => ⟨S16x512x1024, .f32⟩
  | .hbm, ⟨40, _⟩ => ⟨S_, .f32⟩
  | .hbm, ⟨41, _⟩ => ⟨S16x512x1024, .f32⟩
  | .hbm, ⟨42, _⟩ => ⟨S16x512x1024, .f32⟩
  | .hbm, ⟨43, _⟩ => ⟨S16x512x1024, .f32⟩
  | .hbm, ⟨44, _⟩ => ⟨S_, .i32⟩
  | .hbm, ⟨45, _⟩ => ⟨S_, .f32⟩
  | .hbm, ⟨46, _⟩ => ⟨S16x512x1026, .f32⟩
  | .hbm, ⟨47, _⟩ => ⟨S16x512x512, .f32⟩
  | .hbm, ⟨48, _⟩ => ⟨S1024x512x1, .f32⟩
  | .hbm, ⟨49, _⟩ => ⟨S1024x512, .f32⟩
  | .hbm, ⟨50, _⟩ => ⟨S1024x16x512, .f32⟩
  | .hbm, ⟨51, _⟩ => ⟨S16x1024x512, .f32⟩
  | .hbm, ⟨52, _⟩ => ⟨S_, .f32⟩
  | .hbm, ⟨53, _⟩ => ⟨S16x1024x512, .f32⟩
  | .hbm, ⟨54, _⟩ => ⟨S16x1024x512, .f32⟩
  | .hbm, ⟨55, _⟩ => ⟨S16x512x512, .f32⟩
  | .hbm, ⟨56, _⟩ => ⟨S1024x512x1, .f32⟩
  | .hbm, ⟨57, _⟩ => ⟨S1024x512, .f32⟩
  | .hbm, ⟨58, _⟩ => ⟨S1024x16x512, .f32⟩
  | .hbm, ⟨59, _⟩ => ⟨S16x1024x512, .f32⟩
  | .hbm, ⟨60, _⟩ => ⟨S16x1024x512, .f32⟩
  | .hbm, ⟨61, _⟩ => ⟨S16x512x512, .f32⟩
  | .hbm, ⟨62, _⟩ => ⟨S1024x512x1, .f32⟩
  | .hbm, ⟨63, _⟩ => ⟨S1024x512, .f32⟩
  | .hbm, ⟨64, _⟩ => ⟨S1024x16x512, .f32⟩
  | .hbm, ⟨65, _⟩ => ⟨S16x1024x512, .f32⟩
  | .hbm, ⟨66, _⟩ => ⟨S16x1024x512, .f32⟩
  | .hbm, ⟨67, _⟩ => ⟨S1x1024x1, .f32⟩
  | .hbm, ⟨68, _⟩ => ⟨S16x1024x512, .f32⟩
  | .hbm, ⟨69, _⟩ => ⟨S16x1024x512, .f32⟩
  | .hbm, ⟨70, _⟩ => ⟨S16x512x512, .f32⟩
  | .hbm, ⟨71, _⟩ => ⟨S16x512x512, .f32⟩
  | .hbm, ⟨72, _⟩ => ⟨S16x512x512, .f32⟩
  | .hbm, ⟨73, _⟩ => ⟨S16x512x512, .f32⟩
  | .hbm, ⟨74, _⟩ => ⟨S_, .f32⟩
  | .hbm, ⟨75, _⟩ => ⟨S16x512x512, .f32⟩
  | .hbm, ⟨76, _⟩ => ⟨S16x512x512, .f32⟩
  | .hbm, ⟨77, _⟩ => ⟨S_, .f32⟩
  | .hbm, ⟨78, _⟩ => ⟨S16x512x512, .f32⟩
  | .hbm, ⟨79, _⟩ => ⟨S16x512x512, .f32⟩
  | .hbm, ⟨80, _⟩ => ⟨S16x512x512, .f32⟩
  | .hbm, ⟨81, _⟩ => ⟨S512x16x512, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S16, .i32⟩
  | _, _ => ⟨S16x2048x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_call1_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.Run.lean ====
/- What a finished run of the kernel's program leaves in its two result arrays and its six argument arrays, as the
   contents the program's last boundary names. -/
module

public import proofs.«01_k».proof.Proof.Gen.KernelIdeal.Frame

@[expose] public section

noncomputable section

namespace Cert.Subsample

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384
set_option backward.isDefEq.respectTransparency.types false in
/-- Every execution of the kernel's program ends, and at the end every unscoped buffer of every core holds what the
    last boundary's contents say. The launch set-up follows the frame's. -/
theorem ends_at_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- Every execution of the kernel's program ends with its two results at the last boundary's contents and its
    arguments as they were. -/
theorem results : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v24 (by decide)), h c _ (mem_uc main_v20 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (ends_at_boundary m ρ)

end Cert.Subsample

end
-- ==== Proof.Lens.lean ====
/- What the first launch leaves: sixteen lengths, each halved twice, rounding up. -/
module

public import proofs.«01_k».proof.Proof.Gen.KernelIdeal.Frame
public import Idealize.ShloMosaic.Lib.Pipeline.ValueKit

@[expose] public section

set_option maxRecDepth 16384

noncomputable section

namespace Cert.Subsample

open Cert.KernelIdeal Cert.KernelIdeal.Gen
open Idealize.ShloMosaic Idealize.ShloMosaic.TcCoe Idealize.ShloMosaic.Tactic

variable {F : FTy → Type} [FloatOps F]

/-- Half of a word, rounded down, as the kernel computes it: the quotient that drops the fraction, less one where the
    word is negative and odd. -/
def halfDown (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 2#32 0#32)) (Scalar.extui (Scalar.cmpi .slt 2#32 0#32))))
      (Scalar.cmpi .ne (Scalar.remsi w 2#32) 0#32))
    (Scalar.subi (Scalar.divsi w 2#32) 1#32) (Scalar.divsi w 2#32)

/-- One length through two layers of stride two: twice one more, halved. -/
def twoHalvings (l : BitVec 32) : BitVec 32 :=
  halfDown (Scalar.addi (halfDown (Scalar.addi l 1#32)) 1#32)

/-- The word one trip stores is its length halved twice. -/
theorem trip_word (a : Memref sig .tc .smem S16 .i32) (X : BufTy.Contents (Elt F) a.view.ty) (k : Fin k0_t1_loop.trips) :
    trip_k0_t1.sl.v38 a X k = twoHalvings (trip_k0_t1.sl.r a X k) := rfl

/-- The one store of one trip writes, at the place it names, the twice-halved length that stands there. -/
theorem trip_piece (𝒱 : Variants) (c : Dev nD) (bd : Option 𝒱.V) (a : Memref sig .tc .smem S16 .i32) (ha : a.IsWhole)
    (b : Memref sig .tc .smem S16 .i32) (hb : b.IsWhole) (x : Vec F S16 .i32) (k : Fin k0_t1_loop.trips) :
    ∀ p ∈ tripL_k0_t1 (F := F) 𝒱 c bd a ha b hb (ha.unread x) k, ∀ i : p.1.shape.Idx, p.2 i = twoHalvings (x (p.1.emb i)) := by
  intro p hp
  unfold tripL_k0_t1 trip_k0_t1 at hp
  dsimp only at hp
  obtain rfl := List.mem_singleton.mp hp
  intro i
  dsimp only
  rw [trip_word]
  congr 1
  unfold trip_k0_t1.sl.r
  rw [View.readAt_eq_ld, Memref.IsWhole.read_unread]
  refine congrArg x (congrArg (Rect.unit (s := S16) (k0_off1 k) S1.size (k0_off1_inb k)).emb (funext fun d => Fin.ext ?_))
  have h₁ : ((Shape.Idx.first (s := S1) (by decide) d : Fin _) : ℕ) < 1 := by have := (Shape.Idx.first (s := S1) (by decide) d).isLt; match d with | ⟨0, _⟩ => exact this
  have h₂ : ((i d : Fin _) : ℕ) < 1 := by have := (i d).isLt; match d with | ⟨0, _⟩ => exact this
  exact (Nat.lt_one_iff.mp h₁).trans (Nat.lt_one_iff.mp h₂).symm

/-- So it is with every store of the trips before `n`. -/
theorem trips_pieces (𝒱 : Variants) (c : Dev nD) (bd : Option 𝒱.V) (a : Memref sig .tc .smem S16 .i32) (ha : a.IsWhole)
    (b : Memref sig .tc .smem S16 .i32) (hb : b.IsWhole) (x : Vec F S16 .i32) (n : ℕ) :
    ∀ p ∈ pb_k0_t1 (F := F) 𝒱 c bd a ha b hb (ha.unread x) n, ∀ i : p.1.shape.Idx, p.2 i = twoHalvings (x (p.1.emb i)) := by
  induction n with
  | zero => intro p hp; cases hp
  | succ n ih =>
    intro p hp
    rw [pb_k0_t1.eq_2] at hp
    unfold pb_k0_t1Step at hp
    split at hp
    · rcases List.mem_append.mp hp with h | h
      · exact trip_piece 𝒱 c bd a ha b hb x ⟨n, by assumption⟩ p h
      · exact ih p h
    · exact ih p hp

/-- The launch's output buffer after its body holds, place by place, the twice-halved input. -/
theorem lens_block (c : Dev nD) (a : Memref sig .tc .smem S16 .i32) (ha : a.IsWhole)
    (b : Memref sig .tc .smem S16 .i32) (hb : b.IsWhole) (x : Vec F S16 .i32) (y : S16.Idx) :
    out0_A_1 c a ha b hb x y = twoHalvings (x y) := by
  unfold out0_A_1
  rw [View.read_writes_eq_canon _ _ _ (cover0_A_1 c a ha b hb x)]
  refine View.canon_apply_of_pieces (fun y => twoHalvings (x y)) _ ?_ y (cover0_A_1 c a ha b hb x y)
  unfold kernelRun0_A
  dsimp only
  exact trips_pieces Variants.none c none a ha b hb x _

end Cert.Subsample

end
-- ==== Proof.LensArray.lean ====
/- The array of lengths a finished run returns: each length halved twice. -/
module

public import proofs.«01_k».proof.Proof.Lens

@[expose] public section

set_option maxRecDepth 16384

noncomputable section

namespace Cert.Subsample

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The first launch's result array, whatever the launch finds its input array holding. -/
theorem launch_lens (V : (c : Dev nD) → (b : Ref sig .tc) → Buf (Elt F) ((c : Thread nD τ).loc b)) (c : Dev nD) :
    (dat0 V c).arrAt 1 cfg0.N = fun i : S16.Idx => twoHalvings ((V c main_arg1 : Vec F S16 .i32) i) := by
  refine (dat0 V c).arrAt_eq_of_covers 1 _ (by decide +kernel) fun t hf y => ?_
  blk_simp
  rw [after0_1]
  refine (lens_block c _ _ _ _ _ y).trans (congrArg twoHalvings ?_)
  blk_simp [iblk0]
  congr 1

/-- The lengths returned are the argument's lengths, each halved twice. -/
theorem lens_array (c : Dev nD) :
    W5 m ρ c (Proc.devRef .tc main_v20) = fun i : S16.Idx => twoHalvings ((m ((c : Thread nD τ).loc main_arg1) : Vec F S16 .i32) i) := by
  rw [W5_of m ρ c main_v20 (by decide), W4_of m ρ c main_v20 (by decide), W3_of m ρ c main_v20 (by decide)]
  refine (W2_arr m ρ c 1).trans ((launch_lens (V1 m ρ) c).trans (funext fun i => congrArg twoHalvings ?_))
  exact congrFun (W1_args m ρ c main_arg1 (by decide)) i

end Cert.Subsample

end
-- ==== Proof.Tile.lean ====
/- What the second launch computes for one batch entry, as vector operations, and that each of the eight column blocks its
   body stores is this function of one slab of its input block. -/
module

public import proofs.«01_k».proof.Proof.Gen.KernelIdeal.Frame

@[expose] public section

set_option maxRecDepth 16384

noncomputable section

namespace Cert.Subsample

open Cert.KernelIdeal Cert.KernelIdeal.Gen Cert.KernelIdeal.Facts
open Idealize.ShloMosaic Idealize.ShloMosaic.TcCoe Idealize.ShloMosaic.Tactic

variable {F : FTy → Type} [FloatOps F]

/-- The entry's frames, four to a row. -/
def rows (x : Vec F S1x512x320 .f32) : FVec F S512x320 .bf16 :=
  truncf .bf16 (shapeCast S512x320 x shapeCasts_S1x512x320_S512x320) bitsLt_bf16_f32

/-- A row of biases added to every row. -/
def biased (y : FVec F S512x1024 .f32) (b : Vec F S1x1024 .f32) : FVec F S512x1024 .f32 :=
  addf y (broadcastTo S512x1024 (shapeCast S1x1024 b shapeCasts_S1x1024_S1x1024 : FVec F S1x1024 .f32) broadcasts_S1x1024_S512x1024)

/-- The first 512 columns gated by the last 512. -/
def gated (z : FVec F S512x1024 .f32) : FVec F S512x512 .f32 :=
  mulf (extractStridedSlice S512x512 ![0, 0] z slices_S512x1024_o0_0_S512x512)
    (logistic (extractStridedSlice S512x512 ![0, 512] z slices_S512x1024_o0_512_S512x512))

/-- The rows against the wide weight matrix: what one row of four frames contributes to its two frames of the first
    layer. -/
def products (x : Vec F S1x512x320 .f32) (wbig : Vec F S320x2048 .bf16) : FVec F S512x2048 .f32 :=
  matmul dot_S512x320_S320x2048_S512x2048_1_0_0_1_n_n none (rows x)
    (shapeCast S320x2048 wbig shapeCasts_S320x2048_S320x2048 : FVec F S320x2048 .bf16) (constant S512x2048 .f32 0x00000000#32)

/-- What the last frame of the row before contributes. -/
def carried (x : Vec F S1x512x320 .f32) (w0 : Vec F S80x1024 .bf16) : FVec F S512x1024 .f32 :=
  matmul dot_S512x80_S80x1024_S512x1024_1_0_0_1_n_n none
    (concatenate S512x80 0
      [⟨S1x80, (broadcast S1x80 (Scalar.ofBits .bf16 0x0000#16 : F .bf16) : FVec F S1x80 .bf16)⟩,
        ⟨S511x80, (extractStridedSlice S511x80 ![0, 0] (extractStridedSlice S512x80 ![0, 240] (rows x) slices_S512x320_o0_240_S512x80 : FVec F S512x80 .bf16)
          slices_S512x80_o0_0_S511x80 : FVec F S511x80 .bf16)⟩]
      concatenates_S1x80_S511x80_S512x80_d0)
    (shapeCast S80x1024 w0 shapeCasts_S80x1024_S80x1024 : FVec F S80x1024 .bf16) (constant S512x1024 .f32 0x00000000#32)

/-- The first layer's odd frames. -/
def oddFrames (x : Vec F S1x512x320 .f32) (wbig : Vec F S320x2048 .bf16) (b0 : Vec F S1x1024 .f32) : FVec F S512x512 .f32 :=
  gated (biased (extractStridedSlice S512x1024 ![0, 0] (products x wbig) slices_S512x2048_o0_0_S512x1024) b0)

/-- The first layer's even frames. -/
def evenFrames (x : Vec F S1x512x320 .f32) (wbig : Vec F S320x2048 .bf16) (w0 : Vec F S80x1024 .bf16) (b0 : Vec F S1x1024 .f32) :
    FVec F S512x512 .f32 :=
  gated (biased (addf (extractStridedSlice S512x1024 ![0, 1024] (products x wbig) slices_S512x2048_o0_1024_S512x1024) (carried x w0)) b0)

/-- The second layer's convolution, from the first layer's even and odd frames. -/
def secondConv (e o : FVec F S512x512 .f32) (w1a : Vec F S512x1024 .bf16) (w1b : Vec F S1024x1024 .bf16) (b1 : Vec F S1x1024 .f32) :
    FVec F S512x1024 .f32 :=
  biased (addf
    (matmul dot_S512x1024_S1024x1024_S512x1024_1_0_0_1_n_n none
      (truncf .bf16 (concatenate S512x1024 1 [⟨S512x512, e⟩, ⟨S512x512, o⟩] concatenates_S512x512_S512x512_S512x1024_d1 : FVec F S512x1024 .f32) bitsLt_bf16_f32)
      (shapeCast S1024x1024 w1b shapeCasts_S1024x1024_S1024x1024 : FVec F S1024x1024 .bf16) (constant S512x1024 .f32 0x00000000#32))
    (matmul dot_S512x512_S512x1024_S512x1024_1_0_0_1_n_n none
      (truncf .bf16 (concatenate S512x512 0
        [⟨S1x512, (broadcast S1x512 (Scalar.ofBits .f32 0x00000000#32 : F .f32) : FVec F S1x512 .f32)⟩,
          ⟨S511x512, (extractStridedSlice S511x512 ![0, 0] o slices_S512x512_o0_0_S511x512 : FVec F S511x512 .f32)⟩]
        concatenates_S1x512_S511x512_S512x512_d0 : FVec F S512x512 .f32) bitsLt_bf16_f32)
      (shapeCast S512x1024 w1a shapeCasts_S512x1024_S512x1024 : FVec F S512x1024 .bf16) (constant S512x1024 .f32 0x00000000#32))) b1

/-- The output frames of one batch entry. -/
def tile (x : Vec F S1x512x320 .f32) (wbig : Vec F S320x2048 .bf16) (w0 : Vec F S80x1024 .bf16) (b0 : Vec F S1x1024 .f32)
    (w1a : Vec F S512x1024 .bf16) (w1b : Vec F S1024x1024 .bf16) (b1 : Vec F S1x1024 .f32) : FVec F S512x512 .f32 :=
  gated (secondConv (evenFrames x wbig w0 b0) (oddFrames x wbig b0) w1a w1b b1)

/-- The block the body leaves, as eight column blocks of the one function. -/
theorem body_tiles (x0 : Vec F S8x512x320 .f32) (x1 : Vec F S320x2048 .bf16) (x2 : Vec F S80x1024 .bf16) (x3 : Vec F S1x1024 .f32)
    (x4 : Vec F S512x1024 .bf16) (x5 : Vec F S1024x1024 .bf16) (x6 : Vec F S1x1024 .f32) :
    out1_7 x0 x1 x2 x3 x4 x5 x6 =
      let T (s : Vec F S1x512x320 .f32) := tile s (View.ld x1 r1_1) (View.ld x2 r1_2) (View.ld x3 r1_3) (View.ld x4 r1_5) (View.ld x5 r1_4) (View.ld x6 r1_3)
      View.canon [⟨r1_20, T (View.ld x0 r1_19)⟩, ⟨r1_18, T (View.ld x0 r1_17)⟩, ⟨r1_16, T (View.ld x0 r1_15)⟩,
        ⟨r1_14, T (View.ld x0 r1_13)⟩, ⟨r1_12, T (View.ld x0 r1_11)⟩, ⟨r1_10, T (View.ld x0 r1_9)⟩, ⟨r1_8, T (View.ld x0 r1_7)⟩,
        ⟨r1_6, T (View.ld x0 r1_0)⟩] := rfl

end Cert.Subsample

end
-- ==== Proof.Block.lean ====
/- The second launch's output block at an index, and the whole array from its blocks. -/
module

public import proofs.«01_k».proof.Proof.Tile
public import Idealize.ShloMosaic.Lib.Pipeline.ValueKit
public import Idealize.ShloMosaic.Lib.Pointwise.Index

@[expose] public section

set_option maxRecDepth 16384

noncomputable section

namespace Cert.Subsample

open Cert.KernelIdeal Cert.KernelIdeal.Gen
open Idealize.ShloMosaic Idealize.ShloMosaic.TcCoe Idealize.ShloMosaic.Tactic

variable {F : FTy → Type} [FloatOps F]

/-- Batch entry `q` of an array of entries, as a slab of one entry. -/
def entryOf {n : ℕ} (x : Vec F ⟨3, ![n, 512, 320]⟩ .f32) (q : Fin n) : Vec F S1x512x320 .f32 := fun i => x (ix3 q (i 1) (i 2))

/-- The output block at row `y 0` and column `y 1`: the column names the entry of the block, 512 columns to an entry. -/
theorem block_value (x0 : Vec F S8x512x320 .f32) (x1 : Vec F S320x2048 .bf16) (x2 : Vec F S80x1024 .bf16) (x3 : Vec F S1x1024 .f32)
    (x4 : Vec F S512x1024 .bf16) (x5 : Vec F S1024x1024 .bf16) (x6 : Vec F S1x1024 .f32) (y : S512x4096.Idx) (q : Fin 8) (j : Fin 512)
    (hy : (y 1 : ℕ) = 512 * q + j) :
    out1_7 x0 x1 x2 x3 x4 x5 x6 y = tile (entryOf x0 q) x1 x2 x3 x4 x5 x6 (ix2 (y 0) j) := by
  have hz : (![0, 0] : Fin 2 → Nat) = fun _ => 0 := funext fun a => by fin_cases a <;> rfl
  rw [body_tiles]
  dsimp only
  rw [View.ld_unit_zero hz, View.ld_unit_zero hz, View.ld_unit_zero hz, View.ld_unit_zero hz, View.ld_unit_zero hz, View.ld_unit_zero hz]
  have slab : ∀ (n : ℕ) (inb : _) (x : S512x512.Idx), (y 0 : ℕ) = x 0 → (y 1 : ℕ) = 512 * n + x 1 →
      tile (View.ld x0 (Rect.unit (s := S8x512x320) ![n, 0, 0] S1x512x320.size inb)) x1 x2 x3 x4 x5 x6 x
        = tile (entryOf x0 q) x1 x2 x3 x4 x5 x6 (ix2 (y 0) j) := by
    intro n inb x h0 h1
    have hx1 : (x 1 : ℕ) < 512 := (x 1).isLt
    have hn : n = q := by omega
    subst hn
    have hx : x = ix2 (y 0) j := by
      funext a
      match a with
      | ⟨0, _⟩ => exact Fin.ext h0.symm
      | ⟨1, _⟩ => exact Fin.ext (by show (x 1 : ℕ) = j; omega)
    rw [hx]
    refine congrArg (fun s => tile s x1 x2 x3 x4 x5 x6 _) (funext fun i => ?_)
    refine View.ld_unit_apply_of _ _ _ _ _ _ fun a => ?_
    have hi : (i 0 : ℕ) < 1 := (i 0).isLt
    match a with
    | ⟨0, _⟩ => show (q : ℕ) = q + i 0; omega
    | ⟨1, _⟩ => show (i 1 : ℕ) = 0 + i 1; omega
    | ⟨2, _⟩ => show (i 2 : ℕ) = 0 + i 2; omega
  canon_tiles x h using cover1_7 ..
  all_goals exact slab _ _ x (by omega) (by omega)

end Cert.Subsample

end
-- ==== Proof.Array.lean ====
/- The array the second launch leaves, from the arrays it finds. -/
module

public import proofs.«01_k».proof.Proof.Block

@[expose] public section

set_option maxRecDepth 16384

noncomputable section

namespace Cert.Subsample

open Cert.KernelIdeal Cert.KernelIdeal.Gen
open Idealize.ShloMosaic Idealize.ShloMosaic.TcCoe Idealize.ShloMosaic.Tactic

variable {F : FTy → Type} [FloatOps F]

/-- The output of all sixteen entries side by side, 512 columns to an entry. -/
def sideBySide (x : Vec F S16x512x320 .f32) (wbig : Vec F S320x2048 .bf16) (w0 : Vec F S80x1024 .bf16) (b0 : Vec F S1x1024 .f32)
    (w1a : Vec F S512x1024 .bf16) (w1b : Vec F S1024x1024 .bf16) (b1 : Vec F S1x1024 .f32) : Vec F S512x8192 .f32 :=
  fun y => tile (entryOf x ⟨(y 1 : ℕ) / 512, by have : (y 1 : ℕ) < 8192 := (y 1).isLt; omega⟩) wbig w0 b0 w1a w1b b1
    (ix2 (y 0) ⟨(y 1 : ℕ) % 512, Nat.mod_lt _ (by decide)⟩)

/-- Which block of the frames a grid point reads, and which block of the result it writes. -/
theorem point_blocks : ∀ t : Fin cfg1.N, win1_0.index t = ![t.val, 0, 0] ∧ win1_7.index t = ![0, t.val]
    ∧ win1_1.index t = ![0, 0] ∧ win1_2.index t = ![0, 0] ∧ win1_3.index t = ![0, 0] ∧ win1_4.index t = ![0, 0]
    ∧ win1_5.index t = ![0, 0] ∧ win1_6.index t = ![0, 0] :=
  (by decide +kernel : ∀ t : Fin grid1.N, _)

/-- The second launch's result array, whatever the launch finds its input arrays holding. -/
theorem launch_out (V : (c : Dev nD) → (b : Ref sig .tc) → Buf (Elt F) ((c : Thread nD τ).loc b)) (c : Dev nD) :
    (dat1 V c).arrAt 7 cfg1.N
      = sideBySide (V c main_v0) (V c main_v13) (V c main_v14) (V c main_v21) (V c main_v18) (V c main_v19) (V c main_v22) := by
  refine (dat1 V c).arrAt_eq_of_covers 7 _ (by decide +kernel) fun t hf y => ?_
  obtain ⟨e0, e7, e1, e2, e3, e4, e5, e6⟩ := point_blocks t
  have h1 : iblk1 V c 1 t = (V c main_v13 : Vec F S320x2048 .bf16) := funext fun i => by
    blk_simp [iblk1]; exact congrArg (V c main_v13) (by blk_ext [e1])
  have h2 : iblk1 V c 2 t = (V c main_v14 : Vec F S80x1024 .bf16) := funext fun i => by
    blk_simp [iblk1]; exact congrArg (V c main_v14) (by blk_ext [e2])
  have h3 : iblk1 V c 3 t = (V c main_v21 : Vec F S1x1024 .f32) := funext fun i => by
    blk_simp [iblk1]; exact congrArg (V c main_v21) (by blk_ext [e3])
  have h4 : iblk1 V c 4 t = (V c main_v18 : Vec F S512x1024 .bf16) := funext fun i => by
    blk_simp [iblk1]; exact congrArg (V c main_v18) (by blk_ext [e4])
  have h5 : iblk1 V c 5 t = (V c main_v19 : Vec F S1024x1024 .bf16) := funext fun i => by
    blk_simp [iblk1]; exact congrArg (V c main_v19) (by blk_ext [e5])
  have h6 : iblk1 V c 6 t = (V c main_v22 : Vec F S1x1024 .f32) := funext fun i => by
    blk_simp [iblk1]; exact congrArg (V c main_v22) (by blk_ext [e6])
  blk_simp
  rw [after1_7, h1, h2, h3, h4, h5, h6]
  have hy : (y 1 : ℕ) < 4096 := (y 1).isLt
  refine (block_value _ _ _ _ _ _ _ y ⟨(y 1 : ℕ) / 512, by omega⟩ ⟨(y 1 : ℕ) % 512, Nat.mod_lt _ (by decide)⟩ (Nat.div_add_mod _ _).symm).trans ?_
  unfold sideBySide
  have hv0 : (((win1_7.blk t).view.emb y 0 : Fin _) : ℕ) = y 0 := by blk_simp [e7]
  have hv1 : (((win1_7.blk t).view.emb y 1 : Fin _) : ℕ) = t.val * 4096 + y 1 := by blk_simp [e7]
  refine congr (congrArg (fun s => tile s (V c main_v13) (V c main_v14) (V c main_v21) (V c main_v18) (V c main_v19) (V c main_v22)) ?_) ?_
  · funext i
    show iblk1 V c 0 t (ix3 _ (i 1) (i 2)) = (V c main_v0 : Vec F S16x512x320 .f32) (ix3 _ (i 1) (i 2))
    blk_simp [iblk1]
    refine congrArg (V c main_v0) ?_
    blk_ext [e0, e7]
  · refine congr (congrArg ix2 (Fin.ext ?_)) (Fin.ext ?_)
    · exact hv0.symm
    · have hmod : ∀ k : ℕ, k = t.val * 4096 + y 1 → (y 1 : ℕ) % 512 = k % 512 := fun k hk => by omega
      exact hmod _ hv1

end Cert.Subsample

end
-- ==== Proof.Paste.lean ====
/- A block of rows pasted into a wide matrix at a given corner: the pasted block where it lies, the matrix elsewhere. -/
module

public import proofs.«01_k».proof.Proof.Gen.KernelIdeal.Frame
public import Idealize.ShloMosaic.Lib.Pointwise
public import Idealize.ShloMosaic.Lib.Routing.OpsSet

@[expose] public section

set_option maxRecDepth 16384

noncomputable section

namespace Cert.Subsample

open Cert.KernelIdeal
open Idealize.ShloMosaic

variable {α : Type} {A : ℕ} (d : ScatterDims S320x2048 S2 ⟨2, ![A, 1024]⟩)

/-- Element `(i, j)` of the pasted block lands at `(r, c)` exactly when that is the corner plus `(i, j)`. -/
theorem paste_lands (hu : d.updateWindowDims = [0, 1]) (hi : d.insertedWindowDims = [])
    (hs : d.scatterDimsToOperandDims = [0, 1]) (hv : d.indexVectorDim = 0) (idx : IVec S2 32) {a b : ℕ}
    (ha : (idx (ix1 0)).toInt = a) (hb : (idx (ix1 1)).toInt = b) (i : Fin A) (j : Fin 1024) (r : Fin 320) (c : Fin 2048) :
    d.resultIdx? (ix2 i j) idx = some (ix2 r c) ↔ a + i.val = r.val ∧ b + j.val = c.val := by
  obtain ⟨u, ins, sd, iv, wf⟩ := d
  dsimp only at hu hi hs hv
  subst hu hi hs hv
  have s0 : ScatterDims.start ⟨[0, 1], [], [0, 1], 0, wf⟩ (ix2 i j) idx 0 = (a : ℤ) := by
    rw [← ha]
    unfold ScatterDims.start
    rw [dif_pos (by simp)]
    refine congrArg (fun k => (idx k).toInt) (funext fun q => Fin.ext ?_)
    match q with | ⟨0, _⟩ => rfl
  have s1 : ScatterDims.start ⟨[0, 1], [], [0, 1], 0, wf⟩ (ix2 i j) idx 1 = (b : ℤ) := by
    rw [← hb]
    unfold ScatterDims.start
    rw [dif_pos (by simp)]
    refine congrArg (fun k => (idx k).toInt) (funext fun q => Fin.ext ?_)
    match q with | ⟨0, _⟩ => rfl
  have w0 : ScatterDims.window ⟨[0, 1], [], [0, 1], 0, wf⟩ (ix2 i j) 0 = i.val := rfl
  have w1 : ScatterDims.window ⟨[0, 1], [], [0, 1], 0, wf⟩ (ix2 i j) 1 = j.val := rfl
  rw [Routing.resultIdx?_eq_some]
  constructor
  · intro h
    have h0 := h 0
    have h1 := h 1
    rw [s0, w0] at h0
    rw [s1, w1] at h1
    change (a : ℤ) + i.val = (r.val : ℤ) at h0
    change (b : ℤ) + j.val = (c.val : ℤ) at h1
    omega
  · rintro ⟨h0, h1⟩ q
    match q with
    | ⟨0, _⟩ => exact (congrArg₂ (· + ·) s0 (congrArg Nat.cast w0)).trans (show (a : ℤ) + i.val = (r.val : ℤ) by omega)
    | ⟨1, _⟩ => exact (congrArg₂ (· + ·) s1 (congrArg Nat.cast w1)).trans (show (b : ℤ) + j.val = (c.val : ℤ) by omega)

/-- Inside the pasted block, the block. -/
theorem paste_inside (hu : d.updateWindowDims = [0, 1]) (hi : d.insertedWindowDims = [])
    (hs : d.scatterDimsToOperandDims = [0, 1]) (hv : d.indexVectorDim = 0) (x : S320x2048.Idx → α) (idx : IVec S2 32)
    (upd : (⟨2, ![A, 1024]⟩ : Shape).Idx → α) {a b : ℕ}
    (ha : (idx (ix1 0)).toInt = a) (hb : (idx (ix1 1)).toInt = b) (i : Fin A) (j : Fin 1024) (r : Fin 320) (c : Fin 2048)
    (hr : a + i.val = r.val) (hc : b + j.val = c.val) : Host.scatter d (fun _ b => b) x idx upd (ix2 r c) = upd (ix2 i j) := by
  refine Routing.scatter_set_hit d x idx upd _ _ (fun k hk => ?_) (ix2 i j) ((paste_lands d hu hi hs hv idx ha hb i j r c).2 ⟨hr, hc⟩)
  obtain ⟨i', j', rfl⟩ : ∃ (i' : Fin A) (j' : Fin 1024), k = ix2 i' j' := ⟨k 0, k 1, eq_ix2 k⟩
  have h := (paste_lands d hu hi hs hv idx ha hb i' j' r c).1 hk
  rw [show i' = i from Fin.ext (by omega), show j' = j from Fin.ext (by omega)]

/-- Outside the pasted block, the matrix. -/
theorem paste_outside (hu : d.updateWindowDims = [0, 1]) (hi : d.insertedWindowDims = [])
    (hs : d.scatterDimsToOperandDims = [0, 1]) (hv : d.indexVectorDim = 0) (x : S320x2048.Idx → α) (idx : IVec S2 32)
    (upd : (⟨2, ![A, 1024]⟩ : Shape).Idx → α) {a b : ℕ}
    (ha : (idx (ix1 0)).toInt = a) (hb : (idx (ix1 1)).toInt = b) (r : Fin 320) (c : Fin 2048)
    (h : r.val < a ∨ a + A ≤ r.val ∨ c.val < b ∨ b + 1024 ≤ c.val) :
    Host.scatter d (fun _ b => b) x idx upd (ix2 r c) = x (ix2 r c) := by
  refine Routing.scatter_set_miss d x idx upd _ fun k hk => ?_
  obtain ⟨i', j', rfl⟩ : ∃ (i' : Fin A) (j' : Fin 1024), k = ix2 i' j' := ⟨k 0, k 1, eq_ix2 k⟩
  have h := (paste_lands d hu hi hs hv idx ha hb i' j' r c).1 hk
  omega

end Cert.Subsample

end
-- ==== Proof.Weights.lean ====
/- What the host prepares for the second launch: the frames four to a row, and the two layers' weights laid out as
   matrices. -/
module

public import proofs.«01_k».proof.Proof.Paste
public import proofs.«01_k».proof.Proof.Gen.KernelIdeal.Frame

@[expose] public section

set_option maxRecDepth 16384

noncomputable section

namespace Cert.Subsample

open Cert.KernelIdeal Cert.KernelIdeal.Gen Cert.KernelIdeal.Facts
open Idealize.ShloMosaic Idealize.ShloMosaic.TcCoe Idealize.ShloMosaic.Tactic

variable {F : FTy → Type} [FloatOps F]

/-- The frames, four to a row. -/
def fourToRow (X : Vec F S16x2048x80 .f32) : Vec F S16x512x320 .f32 :=
  shapeCast S16x512x320 X shapeCasts_S16x2048x80_S16x512x320

/-- The first layer's weights, tap above tap. -/
def stacked0 (W : Vec F S1024x80x3 .f32) : Vec F S240x1024 .bf16 :=
  truncf .bf16 (shapeCast S240x1024 (transpose S3x80x1024 [2, 1, 0] W transposes_S1024x80x3_S3x80x1024_2_1_0 : FVec F S3x80x1024 .f32)
    shapeCasts_S3x80x1024_S240x1024 : FVec F S240x1024 .f32) bitsLt_bf16_f32

/-- The second layer's weights, tap above tap. -/
def stacked1 (W : Vec F S1024x512x3 .f32) : Vec F S1536x1024 .bf16 :=
  shapeCast S1536x1024 (transpose S3x512x1024 [2, 1, 0] (truncf .bf16 W bitsLt_bf16_f32 : FVec F S1024x512x3 .bf16)
    transposes_S1024x512x3_S3x512x1024_2_1_0 : FVec F S3x512x1024 .bf16) shapeCasts_S3x512x1024_S1536x1024

/-- A pair of index words. -/
def corner (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- The wide matrix before its second half is filled. -/
def halfWide (W : Vec F S1024x80x3 .f32) : Vec F S320x2048 .bf16 :=
  Host.scatter scatter_S320x2048_S2_S240x1024_01_n_01_0 (fun _ b => b)
    (broadcastInDim S320x2048 ![] bcast_S_S320x2048 (constant S_ .bf16 0x0000#16 : FVec F S_ .bf16)) (corner 80#32 0#32) (stacked0 W)

/-- The wide matrix. -/
def wide (W : Vec F S1024x80x3 .f32) : Vec F S320x2048 .bf16 :=
  Host.scatter scatter_S320x2048_S2_S160x1024_01_n_01_0 (fun _ b => b) (halfWide W) (corner 0#32 1024#32)
    (extractStridedSlice S160x1024 ![80, 0] (stacked0 W) slices_S240x1024_S160x1024_80_0)

/-- The first layer's first tap. -/
def firstTap0 (W : Vec F S1024x80x3 .f32) : Vec F S80x1024 .bf16 :=
  extractStridedSlice S80x1024 ![0, 0] (stacked0 W) slices_S240x1024_S80x1024_0_0

/-- The second layer's first tap. -/
def firstTap1 (W : Vec F S1024x512x3 .f32) : Vec F S512x1024 .bf16 :=
  extractStridedSlice S512x1024 ![0, 0] (stacked1 W) slices_S1536x1024_S512x1024_0_0

/-- The second layer's last two taps. -/
def lastTaps1 (W : Vec F S1024x512x3 .f32) : Vec F S1024x1024 .bf16 :=
  extractStridedSlice S1024x1024 ![512, 0] (stacked1 W) slices_S1536x1024_S1024x1024_512_0

/-- A bias as a row. -/
def biasRow (b : Vec F S1024 .f32) : Vec F S1x1024 .f32 := shapeCast S1x1024 b shapeCasts_S1024_S1x1024

variable (m : (ℓ : Loc nD τ sig) → Buf (Elt F) ℓ) (ρ : Dev nD → PrngReg) (c : Dev nD)

/-- The second launch finds the frames four to a row. -/
theorem W1_frames : W1 m ρ c (Proc.devRef .tc main_v0) = fourToRow (m ((c : Thread nD τ).loc main_arg0) : Vec F S16x2048x80 .f32) := by
  simp only [W1, hostOps0]; after_results_simp <;> rfl

/-- The second launch finds the wide matrix. -/
theorem W1_wide : W1 m ρ c (Proc.devRef .tc main_v13) = wide (m ((c : Thread nD τ).loc main_arg2) : Vec F S1024x80x3 .f32) := by
  simp only [W1, hostOps0]; after_results_simp <;> rfl

/-- The second launch finds the first layer's first tap. -/
theorem W1_firstTap0 : W1 m ρ c (Proc.devRef .tc main_v14) = firstTap0 (m ((c : Thread nD τ).loc main_arg2) : Vec F S1024x80x3 .f32) := by
  simp only [W1, hostOps0]; after_results_simp <;> rfl

/-- The second launch finds the second layer's first tap. -/
theorem W1_firstTap1 : W1 m ρ c (Proc.devRef .tc main_v18) = firstTap1 (m ((c : Thread nD τ).loc main_arg4) : Vec F S1024x512x3 .f32) := by
  simp only [W1, hostOps0]; after_results_simp <;> rfl

/-- The second launch finds the second layer's last two taps. -/
theorem W1_lastTaps1 : W1 m ρ c (Proc.devRef .tc main_v19) = lastTaps1 (m ((c : Thread nD τ).loc main_arg4) : Vec F S1024x512x3 .f32) := by
  simp only [W1, hostOps0]; after_results_simp <;> rfl

/-- What the first launch leaves alone reaches the second. -/
theorem W3_eq_W1 (r : Ref sig .tc) (h : r ∉ hostOps1_W) (h' : ∀ w : Fin cfg0.W, Pipeline.arrRef spec0 w = r → (cfg0.win w).isOut = false) :
    W3 m ρ c (Proc.devRef .tc r) = W1 m ρ c (Proc.devRef .tc r) :=
  (W3_of m ρ c r h).trans (W2_of m ρ c r h')

/-- The second launch finds the first layer's bias as a row. -/
theorem W3_bias0 : W3 m ρ c (Proc.devRef .tc main_v21) = biasRow (m ((c : Thread nD τ).loc main_arg3) : Vec F S1024 .f32) := by
  rw [← W2_args m ρ c main_arg3 (by decide)]
  simp only [W3, hostOps1]; after_results_simp <;> rfl

/-- The second launch finds the second layer's bias as a row. -/
theorem W3_bias1 : W3 m ρ c (Proc.devRef .tc main_v22) = biasRow (m ((c : Thread nD τ).loc main_arg5) : Vec F S1024 .f32) := by
  rw [← W2_args m ρ c main_arg5 (by decide)]
  simp only [W3, hostOps1]; after_results_simp <;> rfl

/-- The first result is the second launch's array, its 16 entries apart. -/
theorem W5_result : W5 m ρ c (Proc.devRef .tc main_v24)
    = (shapeCast S512x16x512 (W4 m ρ c (Proc.devRef .tc main_v23) : Vec F S512x8192 .f32) shapeCasts_S512x8192_S512x16x512 : Vec F S512x16x512 .f32) := by
  simp only [W5, hostOps2]; after_results_simp <;> rfl

end Cert.Subsample

end
-- ==== Proof.Conv.lean ====
/- The mathematics of the layer: a convolution of width three and stride two over frames padded with zeros, and the gated
   linear unit that halves its channels. Extended reals throughout. -/
module

public import Idealize.ShloMosaic.Lib.Pointwise

@[expose] public section

noncomputable section

namespace Cert.Subsample

open Idealize.ShloMosaic

/-- A gated linear unit: the value times the logistic of its gate. -/
def gate (a g : EReal) : EReal := a * Ideal.logistic g

/-- The frames `f` with a zero frame before the first and after the last: frame `p` of the padded sequence, at channel
    `c`, is frame `p - 1` of `f`. -/
def padded {C n : ℕ} (f : Fin n → Fin C → EReal) (p : ℕ) (c : Fin C) : EReal :=
  if h : 1 ≤ p ∧ p ≤ n then f ⟨p - 1, by omega⟩ c else 0

/-- The contribution of tap `k` to output channel `o`, reading padded frame `p`. -/
def tap {C n : ℕ} (W : Fin 1024 → Fin C → Fin 3 → EReal) (f : Fin n → Fin C → EReal) (o : Fin 1024) (p : ℕ) (k : Fin 3) :
    EReal :=
  ∑ c, W o c k * padded f p c

/-- Frame `t` of the convolution of stride two, at channel `o`: three taps and the bias. -/
def conv {C n : ℕ} (W : Fin 1024 → Fin C → Fin 3 → EReal) (b : Fin 1024 → EReal) (f : Fin n → Fin C → EReal) (t : ℕ)
    (o : Fin 1024) : EReal :=
  tap W f o (2 * t) 0 + tap W f o (2 * t + 1) 1 + tap W f o (2 * t + 2) 2 + b o

/-- One layer: the convolution, its first 512 channels gated by its last 512. -/
def layer {C n : ℕ} (W : Fin 1024 → Fin C → Fin 3 → EReal) (b : Fin 1024 → EReal) (f : Fin n → Fin C → EReal) (t : ℕ)
    (j : Fin 512) : EReal :=
  gate (conv W b f t ⟨j, by omega⟩) (conv W b f t ⟨512 + j, by omega⟩)

/-- Two layers, the first on 2048 frames of 80 channels, the second on the 1024 frames of 512 channels it leaves. -/
def twoLayers (W0 : Fin 1024 → Fin 80 → Fin 3 → EReal) (b0 : Fin 1024 → EReal) (W1 : Fin 1024 → Fin 512 → Fin 3 → EReal)
    (b1 : Fin 1024 → EReal) (f : Fin 2048 → Fin 80 → EReal) (t : ℕ) (j : Fin 512) : EReal :=
  layer W1 b1 (fun u : Fin 1024 => layer W0 b0 f u) t j

/-- A padded frame inside the sequence is the frame one before. -/
theorem padded_succ {C n : ℕ} (f : Fin n → Fin C → EReal) (p : ℕ) (hp : p < n) (c : Fin C) :
    padded f (p + 1) c = f ⟨p, hp⟩ c := by
  unfold padded
  rw [dif_pos ⟨by omega, by omega⟩]
  rfl

/-- The padded frame before the first is zero. -/
theorem padded_zero {C n : ℕ} (f : Fin n → Fin C → EReal) (c : Fin C) : padded f 0 c = 0 := by
  unfold padded
  rw [dif_neg (by omega)]

end Cert.Subsample

end
-- ==== Proof.TileValue.lean ====
/- One batch entry's output at an index, over the extended reals: its pieces as sums of products. -/
module

public import proofs.«01_k».proof.Proof.Tile
public import proofs.«01_k».proof.Proof.Conv

@[expose] public section

set_option maxRecDepth 16384

noncomputable section

namespace Cert.Subsample

open Cert.KernelIdeal Cert.KernelIdeal.Gen
open Idealize.ShloMosaic Idealize.ShloMosaic.TcCoe Idealize.ShloMosaic.Tactic

/-- A row of four frames against a column of the wide matrix. -/
theorem products_apply (x : Vec Ideal S1x512x320 .f32) (wbig : Vec Ideal S320x2048 .bf16) (t : Fin 512) (n : Fin 2048) :
    products x wbig (ix2 t n) = ∑ k : Fin 320, x (ix3 0 t k) * wbig (ix2 k n) := by
  pointwise [products, rows]

/-- The last frame of the row before against a column of the first tap; nothing before the first row. -/
theorem carried_apply (x : Vec Ideal S1x512x320 .f32) (w0 : Vec Ideal S80x1024 .bf16) (t : Fin 512) (n : Fin 1024) :
    carried x w0 (ix2 t n)
      = ∑ k : Fin 80, (if h : (t : ℕ) < 1 then 0 else x (ix3 0 ⟨t - 1, by omega⟩ ⟨240 + k, by omega⟩)) * w0 (ix2 k n) := by
  pointwise [carried, rows]

/-- The gated unit at an index: a column gated by the one 512 further on. -/
theorem gated_apply (z : FVec Ideal S512x1024 .f32) (t : Fin 512) (j : Fin 512) :
    gated z (ix2 t j) = gate (z (ix2 t ⟨j, by omega⟩)) (z (ix2 t ⟨512 + j, by omega⟩)) := by
  unfold gate
  pointwise [gated]

/-- A bias added at an index. -/
theorem biased_apply (y : FVec Ideal S512x1024 .f32) (b : Vec Ideal S1x1024 .f32) (t : Fin 512) (n : Fin 1024) :
    biased y b (ix2 t n) = y (ix2 t n) + b (ix2 0 n) := by
  pointwise [biased]

/-- The second convolution at an index: the even and the odd frame of the row, the odd frame of the row before, and the
    bias. -/
theorem secondConv_apply (e o : FVec Ideal S512x512 .f32) (w1a : Vec Ideal S512x1024 .bf16) (w1b : Vec Ideal S1024x1024 .bf16)
    (b1 : Vec Ideal S1x1024 .f32) (t : Fin 512) (n : Fin 1024) :
    secondConv e o w1a w1b b1 (ix2 t n)
      = (∑ k : Fin 512, e (ix2 t k) * w1b (ix2 ⟨k, by omega⟩ n) + ∑ k : Fin 512, o (ix2 t k) * w1b (ix2 ⟨512 + k, by omega⟩ n))
        + (∑ k : Fin 512, (if h : (t : ℕ) < 1 then 0 else o (ix2 ⟨t - 1, by omega⟩ k)) * w1a (ix2 k n)) + b1 (ix2 0 n) := by
  unfold secondConv
  rw [biased_apply]
  pointwise

end Cert.Subsample

end
-- ==== Proof.Equation.lean ====
/- The equation: one batch entry's output, computed four frames to a row with the first layer's even and odd frames apart,
   is two layers of the convolution. Products commute and sums may be taken in any order; nothing is distributed. -/
module

public import proofs.«01_k».proof.Proof.TileValue

@[expose] public section

set_option maxRecDepth 16384

noncomputable section

namespace Cert.Subsample

open Cert.KernelIdeal Cert.KernelIdeal.Gen Cert.KernelIdeal.Facts
open Idealize.ShloMosaic Idealize.ShloMosaic.TcCoe Idealize.ShloMosaic.Tactic

/-- The weight matrices the launch is given, in terms of the two layers' weights: the wide matrix holds the three taps of
    an odd frame below a block of zeros, and beside them the last two taps of an even frame above two blocks of zeros. -/
structure Prepared (W0 : Fin 1024 → Fin 80 → Fin 3 → EReal) (W1 : Fin 1024 → Fin 512 → Fin 3 → EReal)
    (wbig : Vec Ideal S320x2048 .bf16) (w0 : Vec Ideal S80x1024 .bf16) (w1a : Vec Ideal S512x1024 .bf16)
    (w1b : Vec Ideal S1024x1024 .bf16) : Prop where
  odd_none : ∀ (c : Fin 80) (n : Fin 1024), wbig (ix2 ⟨c, by omega⟩ ⟨n, by omega⟩) = (0 : EReal)
  odd_tap0 : ∀ (c : Fin 80) (n : Fin 1024), wbig (ix2 ⟨80 + c, by omega⟩ ⟨n, by omega⟩) = W0 n c 0
  odd_tap1 : ∀ (c : Fin 80) (n : Fin 1024), wbig (ix2 ⟨160 + c, by omega⟩ ⟨n, by omega⟩) = W0 n c 1
  odd_tap2 : ∀ (c : Fin 80) (n : Fin 1024), wbig (ix2 ⟨240 + c, by omega⟩ ⟨n, by omega⟩) = W0 n c 2
  even_tap1 : ∀ (c : Fin 80) (n : Fin 1024), wbig (ix2 ⟨c, by omega⟩ ⟨1024 + n, by omega⟩) = W0 n c 1
  even_tap2 : ∀ (c : Fin 80) (n : Fin 1024), wbig (ix2 ⟨80 + c, by omega⟩ ⟨1024 + n, by omega⟩) = W0 n c 2
  even_none : ∀ (r : Fin 160) (n : Fin 1024), wbig (ix2 ⟨160 + r, by omega⟩ ⟨1024 + n, by omega⟩) = (0 : EReal)
  even_tap0 : ∀ (c : Fin 80) (n : Fin 1024), w0 (ix2 c n) = W0 n c 0
  second_tap0 : ∀ (c : Fin 512) (n : Fin 1024), w1a (ix2 c n) = W1 n c 0
  second_tap1 : ∀ (c : Fin 512) (n : Fin 1024), w1b (ix2 ⟨c, by omega⟩ n) = W1 n c 1
  second_tap2 : ∀ (c : Fin 512) (n : Fin 1024), w1b (ix2 ⟨512 + c, by omega⟩ n) = W1 n c 2

variable {W0 : Fin 1024 → Fin 80 → Fin 3 → EReal} {W1 : Fin 1024 → Fin 512 → Fin 3 → EReal} {b0 b1 : Fin 1024 → EReal}
variable {f : Fin 2048 → Fin 80 → EReal}
variable {x : Vec Ideal S1x512x320 .f32} {wbig : Vec Ideal S320x2048 .bf16} {w0 : Vec Ideal S80x1024 .bf16}
variable {w1a : Vec Ideal S512x1024 .bf16} {w1b : Vec Ideal S1024x1024 .bf16} {B0 B1 : Vec Ideal S1x1024 .f32}

/-- A sum over a row of four frames, frame by frame. -/
theorem sum_quarters (g : Fin 320 → EReal) :
    ∑ k, g k = (∑ c : Fin 80, g ⟨c, by omega⟩ + ∑ c : Fin 80, g ⟨80 + c, by omega⟩)
      + (∑ c : Fin 80, g ⟨160 + c, by omega⟩ + ∑ c : Fin 80, g ⟨240 + c, by omega⟩) := by
  rw [Fin.sum_univ_two_halves 160 160 rfl g, Fin.sum_univ_two_halves 80 80 rfl (fun k : Fin 160 => g ⟨k, by omega⟩),
    Fin.sum_univ_two_halves 80 80 rfl (fun k : Fin 160 => g ⟨160 + k, by omega⟩)]
  refine congrArg (_ + ·) (congrArg (_ + ·) (Finset.sum_congr rfl fun c _ => congrArg g (Fin.ext ?_)))
  dsimp only
  omega

/-- The slab `x` holds the frames `f`, four to a row. -/
def Holds (x : Vec Ideal S1x512x320 .f32) (f : Fin 2048 → Fin 80 → EReal) : Prop :=
  ∀ (t : Fin 512) (q : Fin 4) (c : Fin 80), x (ix3 0 t ⟨80 * q + c, by omega⟩) = f ⟨4 * t + q, by omega⟩ c

/-- A frame of a slab met with a weight column is that frame's tap. -/
theorem frame_tap (hx : Holds x f) (t : Fin 512) (q : Fin 4) (n : Fin 1024) (k : Fin 3) (r : Fin 80 → Fin 320)
    (hr : ∀ c, (r c : ℕ) = 80 * q + c) (w : Fin 80 → EReal) (hw : ∀ c, w c = W0 n c k)
    (p : ℕ) (hp : p = 4 * t + q + 1) : ∑ c : Fin 80, (x (ix3 0 t (r c)) : EReal) * w c = tap W0 f n p k := by
  subst hp
  unfold tap
  refine Finset.sum_congr rfl fun c _ => ?_
  rw [hw, padded_succ f (4 * t + q) (by omega), ← hx t q c, mul_comm]
  exact congrArg (W0 n c k * ·) (congrArg (fun i => x (ix3 0 t i)) (Fin.ext (hr c)))

/-- A frame met with a column of zeros contributes nothing. -/
theorem frame_none (t : Fin 512) (r : Fin 80 → Fin 320) (w : Fin 80 → EReal) (hw : ∀ c, w c = 0) :
    ∑ c : Fin 80, (x (ix3 0 t (r c)) : EReal) * w c = 0 :=
  Finset.sum_eq_zero fun c _ => by rw [hw, mul_zero]

/-- The first 1024 columns of the products are the first layer's taps at an odd frame. -/
theorem products_odd (hx : Holds x f) (hp : Prepared W0 W1 wbig w0 w1a w1b) (t : Fin 512) (n : Fin 1024) :
    products x wbig (ix2 t ⟨n, by omega⟩)
      = tap W0 f n (2 * (2 * t + 1)) 0 + tap W0 f n (2 * (2 * t + 1) + 1) 1 + tap W0 f n (2 * (2 * t + 1) + 2) 2 := by
  rw [products_apply, sum_quarters]
  rw [frame_none t _ _ fun c => hp.odd_none c n,
    frame_tap hx t 1 n 0 _ (fun c => rfl) _ (fun c => hp.odd_tap0 c n)
      (2 * (2 * t + 1)) (show _ = 4 * (t : ℕ) + 1 + 1 by omega),
    frame_tap hx t 2 n 1 _ (fun c => rfl) _ (fun c => hp.odd_tap1 c n)
      (2 * (2 * t + 1) + 1) (show _ = 4 * (t : ℕ) + 2 + 1 by omega),
    frame_tap hx t 3 n 2 _ (fun c => rfl) _ (fun c => hp.odd_tap2 c n)
      (2 * (2 * t + 1) + 2) (show _ = 4 * (t : ℕ) + 3 + 1 by omega)]
  rw [zero_add, ← add_assoc]

/-- The last 1024 columns of the products are the first layer's last two taps at an even frame. -/
theorem products_even (hx : Holds x f) (hp : Prepared W0 W1 wbig w0 w1a w1b) (t : Fin 512) (n : Fin 1024) :
    products x wbig (ix2 t ⟨1024 + n, by omega⟩)
      = tap W0 f n (2 * (2 * t) + 1) 1 + tap W0 f n (2 * (2 * t) + 2) 2 := by
  rw [products_apply, sum_quarters]
  rw [frame_tap hx t 0 n 1 _ (fun c => (by simp)) _ (fun c => hp.even_tap1 c n)
      (2 * (2 * t) + 1) (show _ = 4 * (t : ℕ) + 0 + 1 by omega),
    frame_tap hx t 1 n 2 _ (fun c => rfl) _ (fun c => hp.even_tap2 c n)
      (2 * (2 * t) + 2) (show _ = 4 * (t : ℕ) + 1 + 1 by omega),
    frame_none t _ _ fun c => hp.even_none ⟨c, by omega⟩ n,
    frame_none t _ _ fun c => (congrArg (fun i => wbig (ix2 i _)) (Fin.ext (by dsimp only; omega))).trans (hp.even_none ⟨80 + c, by omega⟩ n)]
  rw [add_zero, add_zero]

/-- The carried frame is the first tap of an even frame: the frame before the row's first, none before the first row. -/
theorem carried_tap (hx : Holds x f) (hp : Prepared W0 W1 wbig w0 w1a w1b) (t : Fin 512) (n : Fin 1024) :
    carried x w0 (ix2 t n) = tap W0 f n (2 * (2 * t)) 0 := by
  rw [carried_apply]
  unfold tap
  refine Finset.sum_congr rfl fun c _ => ?_
  rw [hp.even_tap0, mul_comm]
  refine congrArg (W0 n c 0 * ·) ?_
  split
  · next h =>
    rw [show 2 * (2 * (t : ℕ)) = 0 by omega, padded_zero]
  · next h =>
    have e : 2 * (2 * (t : ℕ)) = (4 * (t - 1) + 3) + 1 := by omega
    rw [e, padded_succ f _ (by omega)]
    exact hx ⟨t - 1, by omega⟩ 3 c

/-- The odd frames are the first layer's. -/
theorem oddFrames_layer (hx : Holds x f) (hp : Prepared W0 W1 wbig w0 w1a w1b) (hb : ∀ n, B0 (ix2 0 n) = b0 n)
    (t : Fin 512) (j : Fin 512) : oddFrames x wbig B0 (ix2 t j) = layer W0 b0 f (2 * t + 1) j := by
  have h : ∀ n : Fin 1024, biased (extractStridedSlice S512x1024 ![0, 0] (products x wbig) slices_S512x2048_o0_0_S512x1024) B0 (ix2 t n)
      = conv W0 b0 f (2 * t + 1) n := fun n => by
    rw [biased_apply, hb]
    exact congrArg (· + b0 n) ((by pointwise : _ = products x wbig (ix2 t ⟨n, by omega⟩)).trans (products_odd hx hp t n))
  unfold oddFrames layer
  rw [gated_apply, h, h]

/-- The even frames are the first layer's. -/
theorem evenFrames_layer (hx : Holds x f) (hp : Prepared W0 W1 wbig w0 w1a w1b) (hb : ∀ n, B0 (ix2 0 n) = b0 n)
    (t : Fin 512) (j : Fin 512) : evenFrames x wbig w0 B0 (ix2 t j) = layer W0 b0 f (2 * t) j := by
  have h : ∀ n : Fin 1024, biased (addf (extractStridedSlice S512x1024 ![0, 1024] (products x wbig) slices_S512x2048_o0_1024_S512x1024) (carried x w0)) B0 (ix2 t n)
      = conv W0 b0 f (2 * t) n := fun n => by
    rw [biased_apply, hb]
    refine congrArg (· + b0 n) ((by pointwise : _ = (products x wbig (ix2 t ⟨1024 + n, by omega⟩) : EReal) + carried x w0 (ix2 t n)).trans ?_)
    rw [products_even hx hp t n, carried_tap hx hp t n, add_comm, ← add_assoc]
  unfold evenFrames layer
  rw [gated_apply, h, h]

/-- One batch entry's output is two layers of the convolution on its frames. -/
theorem tile_value (hx : Holds x f) (hp : Prepared W0 W1 wbig w0 w1a w1b) (hb0 : ∀ n, B0 (ix2 0 n) = b0 n)
    (hb1 : ∀ n, B1 (ix2 0 n) = b1 n) (t : Fin 512) (j : Fin 512) :
    tile x wbig w0 B0 w1a w1b B1 (ix2 t j) = twoLayers W0 b0 W1 b1 f t j := by
  have h : ∀ n : Fin 1024, secondConv (evenFrames x wbig w0 B0) (oddFrames x wbig B0) w1a w1b B1 (ix2 t n)
      = conv W1 b1 (fun u : Fin 1024 => layer W0 b0 f u) t n := fun n => by
    rw [secondConv_apply, hb1]
    refine congrArg (· + b1 n) ?_
    unfold tap
    rw [add_comm, ← add_assoc]
    refine congr (congrArg HAdd.hAdd (congr (congrArg HAdd.hAdd ?_) ?_)) ?_
    · refine Finset.sum_congr rfl fun c _ => ?_
      rw [hp.second_tap0, mul_comm]
      refine congrArg (W1 n c 0 * ·) ?_
      split
      · next h => rw [show 2 * (t : ℕ) = 0 by omega, padded_zero]
      · next h =>
        have e : 2 * (t : ℕ) = (2 * (t - 1) + 1) + 1 := by omega
        rw [e, padded_succ _ _ (by omega)]
        exact oddFrames_layer hx hp hb0 ⟨t - 1, by omega⟩ c
    · refine Finset.sum_congr rfl fun c _ => ?_
      rw [hp.second_tap1, mul_comm, padded_succ _ _ (by omega), evenFrames_layer hx hp hb0]
    · refine Finset.sum_congr rfl fun c _ => ?_
      rw [hp.second_tap2, mul_comm, padded_succ _ (2 * t + 1) (by omega), oddFrames_layer hx hp hb0]
  unfold tile twoLayers layer
  rw [gated_apply, h, h]
  rfl

end Cert.Subsample

end
-- ==== Proof.WeightsValue.lean ====
/- The prepared frames, weights and biases at an index, over the extended reals. -/
module

public import proofs.«01_k».proof.Proof.Weights
public import proofs.«01_k».proof.Proof.Equation
public import proofs.«01_k».proof.Proof.Block

@[expose] public section

set_option maxRecDepth 16384

noncomputable section

namespace Cert.Subsample

open Cert.KernelIdeal Cert.KernelIdeal.Gen
open Idealize.ShloMosaic Idealize.ShloMosaic.TcCoe Idealize.ShloMosaic.Tactic

variable (W : Vec Ideal S1024x80x3 .f32) (V : Vec Ideal S1024x512x3 .f32)

/-- Row `80 k + c` of the first layer's stacked weights is tap `k` of channel `c`. -/
theorem stacked0_apply (k : Fin 3) (c : Fin 80) (n : Fin 1024) (r : Fin 240) (h : r.val = 80 * k + c) :
    stacked0 W (ix2 r n) = W (ix3 n c k) := by
  obtain ⟨r, hr⟩ := r
  dsimp only at h
  subst h
  pointwise [stacked0]

/-- Row `512 k + c` of the second layer's stacked weights is tap `k` of channel `c`. -/
theorem stacked1_apply (k : Fin 3) (c : Fin 512) (n : Fin 1024) (r : Fin 1536) (h : r.val = 512 * k + c) :
    stacked1 V (ix2 r n) = V (ix3 n c k) := by
  obtain ⟨r, hr⟩ := r
  dsimp only at h
  subst h
  pointwise [stacked1]

/-- A corner's first word. -/
theorem corner_row (a b : BitVec 32) : corner a b (ix1 0) = a := by
  pointwise [corner]

/-- A corner's second word. -/
theorem corner_col (a b : BitVec 32) : corner a b (ix1 1) = b := by
  pointwise [corner]

/-- The frames four to a row hold the frames. -/
theorem holds_fourToRow (X : Vec Ideal S16x2048x80 .f32) (B : Fin 16) :
    Holds (entryOf (fourToRow X) B) (fun s c => X (ix3 B s c)) := fun t q c => by
  unfold entryOf
  dsimp only
  pointwise [fourToRow]
  refine congrArg (fun s => X (ix3 B s c)) (Fin.ext ?_)
  dsimp only
  omega

/-- A bias row at a column. -/
theorem biasRow_apply (b : Vec Ideal S1024 .f32) (n : Fin 1024) : biasRow b (ix2 0 n) = b (ix1 n) := by
  pointwise [biasRow]

/-- What the host prepares is what the equation asks for. -/
theorem prepared : Prepared (fun o c k => W (ix3 o c k)) (fun o c k => V (ix3 o c k))
    (wide W) (firstTap0 W) (firstTap1 V) (lastTaps1 V) := by
  have out := fun (x : Vec Ideal S320x2048 .bf16) u => paste_outside scatter_S320x2048_S2_S160x1024_01_n_01_0 rfl rfl rfl rfl x
    (corner 0#32 1024#32) u (a := 0) (b := 1024) (by rw [corner_row]; rfl) (by rw [corner_col]; rfl)
  have ins := fun (x : Vec Ideal S320x2048 .bf16) u => paste_inside scatter_S320x2048_S2_S160x1024_01_n_01_0 rfl rfl rfl rfl x
    (corner 0#32 1024#32) u (a := 0) (b := 1024) (by rw [corner_row]; rfl) (by rw [corner_col]; rfl)
  have out' := fun (x : Vec Ideal S320x2048 .bf16) u => paste_outside scatter_S320x2048_S2_S240x1024_01_n_01_0 rfl rfl rfl rfl x
    (corner 80#32 0#32) u (a := 80) (b := 0) (by rw [corner_row]; rfl) (by rw [corner_col]; rfl)
  have ins' := fun (x : Vec Ideal S320x2048 .bf16) u => paste_inside scatter_S320x2048_S2_S240x1024_01_n_01_0 rfl rfl rfl rfl x
    (corner 80#32 0#32) u (a := 80) (b := 0) (by rw [corner_row]; rfl) (by rw [corner_col]; rfl)
  have none : ∀ r n, (broadcastInDim S320x2048 ![] Facts₀.bcast_S_S320x2048 (constant S_ .bf16 0x0000#16 : FVec Ideal S_ .bf16) : Vec Ideal S320x2048 .bf16) (ix2 r n) = (0 : EReal) := by
    intro r n
    pointwise
  have odd : ∀ (k : Fin 3) (c : Fin 80) (n : Fin 1024) (r : Fin 320) (l : Fin 2048), r.val = 80 * (k + 1) + c → l.val = n →
      wide W (ix2 r l) = W (ix3 n c k) := fun k c n r l hr hl => by
    unfold wide halfWide
    rw [out _ _ r l (by omega), ins' _ _ ⟨80 * k + c, by omega⟩ n r l (by dsimp only; omega) (by omega)]
    exact stacked0_apply W k c n _ rfl
  have even : ∀ (k : Fin 3) (c : Fin 80) (n : Fin 1024) (r : Fin 320) (l : Fin 2048), r.val + 80 = 80 * k + c → l.val = 1024 + n →
      wide W (ix2 r l) = W (ix3 n c k) := fun k c n r l hr hl => by
    unfold wide
    rw [ins _ _ ⟨r.val, by omega⟩ n r l (by dsimp only; omega) (by omega)]
    refine Eq.trans ?_ (stacked0_apply W k c n ⟨80 + r.val, by omega⟩ ((Nat.add_comm _ _).trans hr))
    pointwise
  constructor
  · intro c n
    unfold wide halfWide
    rw [out _ _ _ _ (by dsimp only; omega), out' _ _ _ _ (by dsimp only; omega)]
    exact none _ _
  · exact fun c n => odd 0 c n _ _ rfl rfl
  · exact fun c n => odd 1 c n _ _ rfl rfl
  · exact fun c n => odd 2 c n _ _ rfl rfl
  · exact fun c n => even 1 c n _ _ (show c.val + 80 = 80 * 1 + c.val by omega) rfl
  · exact fun c n => even 2 c n _ _ (show 80 + c.val + 80 = 80 * 2 + c.val by omega) rfl
  · intro r n
    unfold wide halfWide
    rw [out _ _ _ _ (by dsimp only; omega), out' _ _ _ _ (by dsimp only; omega)]
    exact none _ _
  · intro c n
    refine Eq.trans ?_ (stacked0_apply W 0 c n ⟨c, by omega⟩ (show c.val = 80 * 0 + c.val by omega))
    pointwise [firstTap0]
  · intro c n
    refine Eq.trans ?_ (stacked1_apply V 0 c n ⟨c, by omega⟩ (show c.val = 512 * 0 + c.val by omega))
    pointwise [firstTap1]
  · intro c n
    refine Eq.trans ?_ (stacked1_apply V 1 c n ⟨512 + c, by omega⟩ rfl)
    pointwise [lastTaps1]
  · intro c n
    refine Eq.trans ?_ (stacked1_apply V 2 c n ⟨512 + (512 + c), by omega⟩ (show 512 + (512 + c.val) = 512 * 2 + c.val by omega))
    pointwise [lastTaps1]

end Cert.Subsample

end
-- ==== Proof.OutArray.lean ====
/- The first result a finished run returns, at an index: two layers of the convolution on the batch entry's frames. -/
module

public import proofs.«01_k».proof.Proof.Array
public import proofs.«01_k».proof.Proof.WeightsValue

@[expose] public section

set_option maxRecDepth 16384

noncomputable section

namespace Cert.Subsample

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The second launch's array, from the arguments. -/
theorem W4_array : W4 m ρ c (Proc.devRef .tc main_v23)
    = sideBySide (fourToRow (m ((c : Thread nD τ).loc main_arg0) : Vec Ideal S16x2048x80 .f32))
        (wide (m ((c : Thread nD τ).loc main_arg2) : Vec Ideal S1024x80x3 .f32))
        (firstTap0 (m ((c : Thread nD τ).loc main_arg2) : Vec Ideal S1024x80x3 .f32))
        (biasRow (m ((c : Thread nD τ).loc main_arg3) : Vec Ideal S1024 .f32))
        (firstTap1 (m ((c : Thread nD τ).loc main_arg4) : Vec Ideal S1024x512x3 .f32))
        (lastTaps1 (m ((c : Thread nD τ).loc main_arg4) : Vec Ideal S1024x512x3 .f32))
        (biasRow (m ((c : Thread nD τ).loc main_arg5) : Vec Ideal S1024 .f32)) := by
  refine (W4_arr m ρ c 7).trans ((launch_out (V3 m ρ) c).trans ?_)
  dsimp only [V3]
  rw [W3_eq_W1 m ρ c main_v0 (by decide) (by decide), W3_eq_W1 m ρ c main_v13 (by decide) (by decide),
    W3_eq_W1 m ρ c main_v14 (by decide) (by decide), W3_eq_W1 m ρ c main_v18 (by decide) (by decide),
    W3_eq_W1 m ρ c main_v19 (by decide) (by decide), W1_frames, W1_wide, W1_firstTap0, W1_firstTap1, W1_lastTaps1,
    W3_bias0, W3_bias1]

variable (X : Vec Ideal S16x2048x80 .f32) (P : Vec Ideal S1024x80x3 .f32) (p : Vec Ideal S1024 .f32)
variable (Q : Vec Ideal S1024x512x3 .f32) (q : Vec Ideal S1024 .f32)

/-- Side by side, the batch entries' outputs; apart, each is two layers of the convolution. -/
theorem apart_value (t : Fin 512) (B : Fin 16) (j : Fin 512) :
    (shapeCast S512x16x512 (sideBySide (fourToRow X) (wide P) (firstTap0 P) (biasRow p) (firstTap1 Q) (lastTaps1 Q) (biasRow q))
        Facts₀.shapeCasts_S512x8192_S512x16x512 : Vec Ideal S512x16x512 .f32) (ix3 t B j)
      = twoLayers (fun o k l => P (ix3 o k l)) (fun o => p (ix1 o)) (fun o k l => Q (ix3 o k l)) (fun o => q (ix1 o))
          (fun s k => X (ix3 B s k)) t j := by
  have hB : ((B : ℕ) * 512 + j) / 512 = B := by omega
  have hj : ((B : ℕ) * 512 + j) % 512 = j := by omega
  refine Eq.trans (b := tile (entryOf (fourToRow X) B) (wide P) (firstTap0 P) (biasRow p) (firstTap1 Q) (lastTaps1 Q) (biasRow q) (ix2 t j)) ?_
    (tile_value (holds_fourToRow X B) (prepared P Q) (fun n => biasRow_apply p n) (fun n => biasRow_apply q n) t j)
  refine Eq.trans (b := sideBySide (fourToRow X) (wide P) (firstTap0 P) (biasRow p) (firstTap1 Q) (lastTaps1 Q) (biasRow q)
    (ix2 t ⟨B * 512 + j, by omega⟩)) (by pointwise) ?_
  unfold sideBySide
  refine congr (congrArg (fun e => tile (entryOf (fourToRow X) e) (wide P) (firstTap0 P) (biasRow p) (firstTap1 Q) (lastTaps1 Q) (biasRow q)) (Fin.ext hB)) ?_
  exact congrArg (ix2 t) (Fin.ext hj)

/-- The first result at an index. -/
theorem out_array (hX : m ((c : Thread nD τ).loc main_arg0) = X) (hP : m ((c : Thread nD τ).loc main_arg2) = P)
    (hp : m ((c : Thread nD τ).loc main_arg3) = p) (hQ : m ((c : Thread nD τ).loc main_arg4) = Q)
    (hq : m ((c : Thread nD τ).loc main_arg5) = q) (t : Fin 512) (B : Fin 16) (j : Fin 512) :
    (W5 m ρ c (Proc.devRef .tc main_v24) : Vec Ideal S512x16x512 .f32) (ix3 t B j)
      = twoLayers (fun o k l => P (ix3 o k l)) (fun o => p (ix1 o)) (fun o k l => Q (ix3 o k l)) (fun o => q (ix1 o))
          (fun s k => X (ix3 B s k)) t j := by
  rw [W5_result, W4_array, hX, hP, hp, hQ, hq]
  exact apart_value X P p Q q t B j

end Cert.Subsample

end
-- ==== Proof.RefValue.lean ====
/- What the reference computes: its first result, read at an index, is two layers of the convolution on one batch
   entry's frames. -/
module

public import proofs.«01_k».proof.Proof.Conv
public import proofs.«01_k».proof.Proof.Gen.ReferenceIdeal.Run
public import Idealize.ShloMosaic.Lib.Tactic.CleanTypes

@[expose] public section

set_option maxRecDepth 16384

noncomputable section

namespace Cert.Subsample

open Cert.ReferenceIdeal Cert.ReferenceIdeal.Gen Cert.ReferenceIdeal.Facts
open Idealize.ShloMosaic Idealize.ShloMosaic.TcCoe Idealize.ShloMosaic.Tactic

/-- The reference's first convolution, of the batch in channels-by-frames layout. -/
def refConv0 (x : FVec Ideal S16x80x2048 .f32) (W : FVec Ideal S1024x80x3 .f32) (b : FVec Ideal S1024 .f32) :
    FVec Ideal S16x1024x1024 .f32 :=
  let z := pad S16x80x2050 ![0, 0, 1] ![0, 0, 1] ![0, 0, 0] x (sitofp .f32 (constantI S_ 32 0#32)) pads_S16x80x2048_S16x80x2050_000_000_110 h_S_
  let p0 := transpose S16x1024x1024 [1, 0, 2] (Host.dotGeneral dot_S1024x80_S16x80x1024_S1024x16x1024_1_1_0_02_n_n none (shapeCast S1024x80 (extractStridedSlice S1024x80x1 ![0, 0, 0] W slices_S1024x80x3_S1024x80x1_0_0_0) shapeCasts_S1024x80x1_S1024x80) (Host.slice S16x80x1024 ![0, 0, 0] ![1, 1, 2] z slicesBy_S16x80x2050_S16x80x1024_0s1_0s1_0s2)) transposes_S1024x16x1024_S16x1024x1024_1_0_2
  let p1 := transpose S16x1024x1024 [1, 0, 2] (Host.dotGeneral dot_S1024x80_S16x80x1024_S1024x16x1024_1_1_0_02_n_n none (shapeCast S1024x80 (extractStridedSlice S1024x80x1 ![0, 0, 1] W slices_S1024x80x3_S1024x80x1_0_0_1) shapeCasts_S1024x80x1_S1024x80) (Host.slice S16x80x1024 ![0, 0, 1] ![1, 1, 2] z slicesBy_S16x80x2050_S16x80x1024_0s1_0s1_1s2)) transposes_S1024x16x1024_S16x1024x1024_1_0_2
  let p2 := transpose S16x1024x1024 [1, 0, 2] (Host.dotGeneral dot_S1024x80_S16x80x1024_S1024x16x1024_1_1_0_02_n_n none (shapeCast S1024x80 (extractStridedSlice S1024x80x1 ![0, 0, 2] W slices_S1024x80x3_S1024x80x1_0_0_2) shapeCasts_S1024x80x1_S1024x80) (Host.slice S16x80x1024 ![0, 0, 2] ![1, 1, 2] z slicesBy_S16x80x2050_S16x80x1024_0s1_0s1_2s2)) transposes_S1024x16x1024_S16x1024x1024_1_0_2
  addf (addf (addf (addf (broadcastInDim S16x1024x1024 ![] bcast_S_S16x1024x1024 (constant S_ .f32 0x00000000#32)) p0) p1) p2)
    (broadcastInDim S16x1024x1024 ![0, 1, 2] bcast_S1x1024x1_S16x1024x1024_0_1_2 (broadcastInDim S1x1024x1 ![1] bcast_S1024_S1x1024x1_1 b))

/-- The reference's gated linear unit on 1024 channels by 1024 frames. -/
def refGlu0 (y : FVec Ideal S16x1024x1024 .f32) : FVec Ideal S16x512x1024 .f32 :=
  mulf (extractStridedSlice S16x512x1024 ![0, 0, 0] y slices_S16x1024x1024_S16x512x1024_0_0_0)
    (Host.divf (broadcastInDim S16x512x1024 ![] bcast_S_S16x512x1024 (constant S_ .f32 0x3F800000#32))
      (addf (broadcastInDim S16x512x1024 ![] bcast_S_S16x512x1024 (constant S_ .f32 0x3F800000#32))
        (Host.exp (Host.negf (extractStridedSlice S16x512x1024 ![0, 512, 0] y slices_S16x1024x1024_S16x512x1024_0_512_0)))))

/-- The reference's second convolution. -/
def refConv1 (x : FVec Ideal S16x512x1024 .f32) (W : FVec Ideal S1024x512x3 .f32) (b : FVec Ideal S1024 .f32) :
    FVec Ideal S16x1024x512 .f32 :=
  let z := pad S16x512x1026 ![0, 0, 1] ![0, 0, 1] ![0, 0, 0] x (sitofp .f32 (constantI S_ 32 0#32)) pads_S16x512x1024_S16x512x1026_000_000_110 h_S_
  let p0 := transpose S16x1024x512 [1, 0, 2] (Host.dotGeneral dot_S1024x512_S16x512x512_S1024x16x512_1_1_0_02_n_n none (shapeCast S1024x512 (extractStridedSlice S1024x512x1 ![0, 0, 0] W slices_S1024x512x3_S1024x512x1_0_0_0) shapeCasts_S1024x512x1_S1024x512) (Host.slice S16x512x512 ![0, 0, 0] ![1, 1, 2] z slicesBy_S16x512x1026_S16x512x512_0s1_0s1_0s2)) transposes_S1024x16x512_S16x1024x512_1_0_2
  let p1 := transpose S16x1024x512 [1, 0, 2] (Host.dotGeneral dot_S1024x512_S16x512x512_S1024x16x512_1_1_0_02_n_n none (shapeCast S1024x512 (extractStridedSlice S1024x512x1 ![0, 0, 1] W slices_S1024x512x3_S1024x512x1_0_0_1) shapeCasts_S1024x512x1_S1024x512) (Host.slice S16x512x512 ![0, 0, 1] ![1, 1, 2] z slicesBy_S16x512x1026_S16x512x512_0s1_0s1_1s2)) transposes_S1024x16x512_S16x1024x512_1_0_2
  let p2 := transpose S16x1024x512 [1, 0, 2] (Host.dotGeneral dot_S1024x512_S16x512x512_S1024x16x512_1_1_0_02_n_n none (shapeCast S1024x512 (extractStridedSlice S1024x512x1 ![0, 0, 2] W slices_S1024x512x3_S1024x512x1_0_0_2) shapeCasts_S1024x512x1_S1024x512) (Host.slice S16x512x512 ![0, 0, 2] ![1, 1, 2] z slicesBy_S16x512x1026_S16x512x512_0s1_0s1_2s2)) transposes_S1024x16x512_S16x1024x512_1_0_2
  addf (addf (addf (addf (broadcastInDim S16x1024x512 ![] bcast_S_S16x1024x512 (constant S_ .f32 0x00000000#32)) p0) p1) p2)
    (broadcastInDim S16x1024x512 ![0, 1, 2] bcast_S1x1024x1_S16x1024x512_0_1_2 (broadcastInDim S1x1024x1 ![1] bcast_S1024_S1x1024x1_1 b))

/-- The reference's gated linear unit on 1024 channels by 512 frames. -/
def refGlu1 (y : FVec Ideal S16x1024x512 .f32) : FVec Ideal S16x512x512 .f32 :=
  mulf (extractStridedSlice S16x512x512 ![0, 0, 0] y slices_S16x1024x512_S16x512x512_0_0_0)
    (Host.divf (broadcastInDim S16x512x512 ![] bcast_S_S16x512x512 (constant S_ .f32 0x3F800000#32))
      (addf (broadcastInDim S16x512x512 ![] bcast_S_S16x512x512 (constant S_ .f32 0x3F800000#32))
        (Host.exp (Host.negf (extractStridedSlice S16x512x512 ![0, 512, 0] y slices_S16x1024x512_S16x512x512_0_512_0)))))

/-- The reference's first result is its four stages, one after the other, between two transpositions. -/
theorem reference_stages (m : (ℓ : Loc nD τ sig) → Buf (Elt Ideal) ℓ) (c : Dev nD) :
    Value.res_out0 m c = transpose S512x16x512 [2, 0, 1]
      (refGlu1 (refConv1 (refGlu0 (refConv0 (transpose S16x80x2048 [0, 2, 1] (m ((c.tc : Thread nD τ).loc main_arg0)) transposes_S16x2048x80_S16x80x2048_0_2_1)
        (m ((c.tc : Thread nD τ).loc main_arg2)) (m ((c.tc : Thread nD τ).loc main_arg3))))
        (m ((c.tc : Thread nD τ).loc main_arg4)) (m ((c.tc : Thread nD τ).loc main_arg5))))
      transposes_S16x512x512_S512x16x512_2_0_1 := rfl

/-- Zero converted to a float is zero. -/
theorem zero_word : (FloatOps.sitofp FTy.f32 (0#32 : BitVec 32) : Ideal .f32) = (0 : EReal) := by
  show (((0#32 : BitVec 32).toInt : ℝ) : EReal) = 0
  simp

/-- The first gated unit at an index. -/
theorem refGlu0_apply (y : FVec Ideal S16x1024x1024 .f32) (B : Fin 16) (j : Fin 512) (t : Fin 1024) :
    refGlu0 y (ix3 B j t) = gate (y (ix3 B ⟨j, by omega⟩ t)) (y (ix3 B ⟨512 + j, by omega⟩ t)) := by
  unfold gate Ideal.logistic
  pointwise [refGlu0]

/-- The second gated unit at an index. -/
theorem refGlu1_apply (y : FVec Ideal S16x1024x512 .f32) (B : Fin 16) (j : Fin 512) (t : Fin 512) :
    refGlu1 y (ix3 B j t) = gate (y (ix3 B ⟨j, by omega⟩ t)) (y (ix3 B ⟨512 + j, by omega⟩ t)) := by
  unfold gate Ideal.logistic
  pointwise [refGlu1]

/-- The first convolution at an index. -/
theorem refConv0_apply (x : FVec Ideal S16x80x2048 .f32) (W : FVec Ideal S1024x80x3 .f32) (b : FVec Ideal S1024 .f32)
    (B : Fin 16) (o : Fin 1024) (t : Fin 1024) :
    refConv0 x W b (ix3 B o t)
      = conv (fun o c k => W (ix3 o c k)) (fun o => b (ix1 o)) (fun (s : Fin 2048) (c : Fin 80) => x (ix3 B c s)) t o := by
  unfold conv tap padded
  pointwise [refConv0, zero_word]
  refine congrArg (· + b (ix1 o)) (congr (congrArg HAdd.hAdd (congr (congrArg HAdd.hAdd ?_) ?_)) ?_)
  all_goals
    refine Finset.sum_congr rfl fun c _ => congrArg (W (ix3 o c _) * ·) ?_
    refine dite_congr (propext (by omega)) (fun h => congrArg x (congrArg (ix3 B c) (Fin.ext ?_))) fun _ => rfl
    first | (dsimp only; omega) | rfl

/-- The second convolution at an index. -/
theorem refConv1_apply (x : FVec Ideal S16x512x1024 .f32) (W : FVec Ideal S1024x512x3 .f32) (b : FVec Ideal S1024 .f32)
    (B : Fin 16) (o : Fin 1024) (t : Fin 512) :
    refConv1 x W b (ix3 B o t)
      = conv (fun o c k => W (ix3 o c k)) (fun o => b (ix1 o)) (fun (s : Fin 1024) (c : Fin 512) => x (ix3 B c s)) t o := by
  unfold conv tap padded
  pointwise [refConv1, zero_word]
  refine congrArg (· + b (ix1 o)) (congr (congrArg HAdd.hAdd (congr (congrArg HAdd.hAdd ?_) ?_)) ?_)
  all_goals
    refine Finset.sum_congr rfl fun c _ => congrArg (W (ix3 o c _) * ·) ?_
    refine dite_congr (propext (by omega)) (fun h => congrArg x (congrArg (ix3 B c) (Fin.ext ?_))) fun _ => rfl
    first | (dsimp only; omega) | rfl

/-- The reference's first result at frame `t`, batch entry `B` and channel `j`: two layers on the entry's frames. -/
theorem reference_value (m : (ℓ : Loc nD τ sig) → Buf (Elt Ideal) ℓ) (c : Dev nD) (X : FVec Ideal S16x2048x80 .f32)
    (W0 : FVec Ideal S1024x80x3 .f32) (b0 : FVec Ideal S1024 .f32) (W1 : FVec Ideal S1024x512x3 .f32) (b1 : FVec Ideal S1024 .f32)
    (hX : m ((c.tc : Thread nD τ).loc main_arg0) = X) (hW0 : m ((c.tc : Thread nD τ).loc main_arg2) = W0)
    (hb0 : m ((c.tc : Thread nD τ).loc main_arg3) = b0) (hW1 : m ((c.tc : Thread nD τ).loc main_arg4) = W1)
    (hb1 : m ((c.tc : Thread nD τ).loc main_arg5) = b1) (t : Fin 512) (B : Fin 16) (j : Fin 512) :
    (Value.res_out0 m c : FVec Ideal S512x16x512 .f32) (ix3 t B j)
      = twoLayers (fun o c k => W0 (ix3 o c k)) (fun o => b0 (ix1 o)) (fun o c k => W1 (ix3 o c k)) (fun o => b1 (ix1 o))
          (fun s c => X (ix3 B s c)) t j := by
  rw [reference_stages, hX, hW0, hb0, hW1, hb1]
  have h : ∀ y : FVec Ideal S16x512x512 .f32, transpose S512x16x512 [2, 0, 1] y transposes_S16x512x512_S512x16x512_2_0_1 (ix3 t B j) = y (ix3 B j t) := by
    intro y; pointwise
  refine (h _).trans ?_
  unfold twoLayers layer
  rw [refGlu1_apply, refConv1_apply, refConv1_apply]
  have hx : ∀ (s : Fin 2048) (c : Fin 80), transpose S16x80x2048 [0, 2, 1] X transposes_S16x2048x80_S16x80x2048_0_2_1 (ix3 B c s) = X (ix3 B s c) := by
    intro s c; pointwise
  simp only [refGlu0_apply, refConv0_apply, hx]

end Cert.Subsample

end
-- ==== Proof.LensValue.lean ====
/- Halving a length in whole numbers and halving it in reals agree. -/
module

public import proofs.«01_k».proof.Proof.Lens
public import Idealize.ShloMosaic.Lib.Pointwise
public import Idealize.ShloMosaic.Lib.Routing.Words

@[expose] public section

set_option maxRecDepth 16384

noncomputable section

namespace Cert.Subsample

open Idealize.ShloMosaic Idealize.ShloMosaic.Tactic

/-- Where the halving subtracts one: at a negative word with a remainder. -/
theorem halfDown_eq (w : BitVec 32) :
    halfDown w = if w.toInt < 0 ∧ w.srem 2#32 ≠ 0#32 then w.sdiv 2#32 - 1#32 else w.sdiv 2#32 := by
  have hc : ¬ IntOp.SDivCorner w 2#32 := by
    unfold IntOp.SDivCorner; simp
  have hq : Scalar.divsi w 2#32 = w.sdiv 2#32 := if_neg hc
  have hm : Scalar.remsi w 2#32 = w.srem 2#32 := if_neg hc
  have hg : Scalar.cmpi .sgt w 0#32 = BitVec.ofBool (decide (0 < w.toInt)) := rfl
  have hl : Scalar.cmpi .slt w 0#32 = BitVec.ofBool (decide (w.toInt < 0)) := rfl
  have hn : Scalar.cmpi .ne (w.srem 2#32) 0#32 = BitVec.ofBool (w.srem 2#32 != 0#32) := rfl
  unfold halfDown
  rw [hq, hm, hg, hl, hn]
  rcases lt_trichotomy w.toInt 0 with h | h | h
  · rw [decide_eq_false (by omega), decide_eq_true h]
    by_cases hz : w.srem 2#32 = 0#32
    · rw [if_neg (fun k => k.2 hz), hz]; rfl
    · rw [if_pos ⟨h, hz⟩, bne_iff_ne.2 hz]; rfl
  · have hw : w = 0#32 := BitVec.eq_of_toInt_eq (by rw [h]; rfl)
    subst hw
    decide
  · rw [decide_eq_true h, decide_eq_false (by omega), if_neg (fun k => absurd k.1 (by omega))]
    by_cases hz : w.srem 2#32 = 0#32
    · rw [hz]; rfl
    · rw [bne_iff_ne.2 hz]; rfl

/-- The halved word is the floor of half the word. -/
theorem halfDown_toInt (w : BitVec 32) : (halfDown w).toInt = w.toInt / 2 := by
  have hr : w.toInt < 2147483648 := w.toInt_lt
  have hl : -2147483648 ≤ w.toInt := w.le_toInt
  have hs := Int.mul_tdiv_add_tmod w.toInt 2
  have hlt := Int.tmod_lt_of_pos w.toInt (show (0 : ℤ) < 2 by decide)
  have hgt := Int.lt_tmod_of_pos w.toInt (show (0 : ℤ) < 2 by decide)
  have hp : 0 ≤ w.toInt → 0 ≤ w.toInt.tmod 2 := fun h => Int.tmod_nonneg _ h
  have hn : w.toInt ≤ 0 → w.toInt.tmod 2 ≤ 0 := fun h => by
    have := Int.tmod_nonneg (a := -w.toInt) 2 (by omega)
    rw [Int.neg_tmod] at this
    omega
  have hd : (w.sdiv 2#32).toInt = w.toInt.tdiv 2 := by
    rw [BitVec.toInt_sdiv]
    refine (Int.bmod_eq_of_le ?_ ?_) <;> · show _ ; simp; omega
  have hm : (w.srem 2#32).toInt = w.toInt.tmod 2 := by
    rw [BitVec.toInt_srem]; rfl
  have hz : w.srem 2#32 = 0#32 ↔ w.toInt.tmod 2 = 0 := by
    rw [← hm]
    exact ⟨fun h => by rw [h]; rfl, fun h => BitVec.eq_of_toInt_eq (by rw [h]; rfl)⟩
  rw [halfDown_eq]
  split
  · next h =>
    have h2 := mt hz.2 h.2
    have h1 := h.1
    rw [BitVec.toInt_sub_of_not_ssubOverflow (by simp [BitVec.ssubOverflow, hd]; omega), hd]
    show w.toInt.tdiv 2 - 1 = _
    omega
  · next h =>
    rw [not_and_or, not_not, hz] at h
    rw [hd]
    omega

end Cert.Subsample

end
-- ==== Proof.RefLens.lean ====
/- The reference's lengths are the kernel's: on a length below the largest word, the real halvings are the whole ones. -/
module

public import proofs.«01_k».proof.Proof.LensValue
public import proofs.«01_k».proof.Proof.Gen.ReferenceIdeal.Run

@[expose] public section

set_option maxRecDepth 16384

noncomputable section

namespace Cert.Subsample

open Idealize.ShloMosaic Idealize.ShloMosaic.Tactic
open Cert.ReferenceIdeal Cert.ReferenceIdeal.Facts₀

/-- Lengths through one layer of stride two, in reals. -/
def realHalf (x : FVec Ideal S16 .f32) : FVec Ideal S16 .f32 :=
  Host.floor (addf (Host.divf (subf x (broadcastInDim S16 ![] bcast_S_S16 (constant S_ .f32 0x3F800000#32 : FVec Ideal S_ .f32)))
    (broadcastInDim S16 ![] bcast_S_S16 (constant S_ .f32 0x40000000#32 : FVec Ideal S_ .f32)))
    (broadcastInDim S16 ![] bcast_S_S16 (constant S_ .f32 0x3F800000#32 : FVec Ideal S_ .f32)))

/-- On a whole number, the layer is one more, halved and rounded down. -/
theorem realHalf_whole (x : FVec Ideal S16 .f32) (B : Fin 16) (z : ℤ) (h : x (ix1 B) = (((z : ℝ)) : EReal)) :
    realHalf x (ix1 B) = ((((z + 1) / 2 : ℤ) : ℝ) : EReal) := by
  have two : Ideal.ofBits FTy.f32 1073741824#32 = ((2 : ℝ) : EReal) := by
    simp [Ideal.ofBits, Ideal.ieee, -EReal.coe_mul]; norm_num
  have hk : 2 * ((z + 1) / 2) ≤ z + 1 ∧ z + 1 < 2 * ((z + 1) / 2) + 2 := by omega
  pointwise [realHalf]
  rw [two, h, Ideal.div_coe (by norm_num), ← EReal.coe_one, ← EReal.coe_sub, ← EReal.coe_mul, ← EReal.coe_add]
  refine congrArg (fun k : ℤ => ((k : ℝ) : EReal)) ?_
  generalize (z + 1) / 2 = k at hk ⊢
  have h1 : (2 * k : ℝ) ≤ z + 1 := by exact_mod_cast hk.1
  have h2 : (z + 1 : ℝ) < 2 * k + 2 := by exact_mod_cast hk.2
  exact Int.floor_eq_iff.2 ⟨by linarith, by linarith⟩

/-- Twice over, and back to a word: the word halved twice. -/
theorem lens_agree (L : IVec S16 32) (B : Fin 16) (h : (L (ix1 B)).toInt < 2147483647) :
    (fptosi 32 (realHalf (realHalf (sitofp .f32 L : FVec Ideal S16 .f32))) : IVec S16 32) (ix1 B) = twoHalvings (L (ix1 B)) := by
  have hl : -2147483648 ≤ (L (ix1 B)).toInt := (L (ix1 B)).le_toInt
  have e0 : (sitofp .f32 L : FVec Ideal S16 .f32) (ix1 B) = (((L (ix1 B)).toInt : ℝ) : EReal) := rfl
  have e1 := realHalf_whole _ B _ e0
  have e2 := realHalf_whole _ B _ e1
  show Ideal.fptosi 32 (realHalf (realHalf (sitofp .f32 L : FVec Ideal S16 .f32)) (ix1 B)) = _
  rw [e2]
  have step : ∀ w : BitVec 32, w.toInt < 2147483647 → (halfDown (Scalar.addi w 1#32)).toInt = (w.toInt + 1) / 2 := fun w hw => by
    have hl : -2147483648 ≤ w.toInt := w.le_toInt
    rw [halfDown_toInt]
    refine congrArg (· / 2) ?_
    show (w + 1#32).toInt = _
    rw [BitVec.toInt_add_of_not_saddOverflow (by simp [BitVec.saddOverflow]; omega)]
    rfl
  have s1 := step _ h
  have s2 : (twoHalvings (L (ix1 B))).toInt = _ := (step _ (by rw [s1]; omega)).trans (congrArg (fun z => (z + 1) / 2) s1)
  rw [← s2]
  generalize twoHalvings (L (ix1 B)) = w
  have hl : -2147483648 ≤ w.toInt := w.le_toInt
  have hr : w.toInt < 2147483648 := w.toInt_lt
  unfold Ideal.fptosi
  rw [Ideal.toIntClamped_coe, Int.floor_intCast, Int.ceil_intCast, ite_self]
  refine (congrArg (BitVec.ofInt 32) ?_).trans (BitVec.ofInt_toInt)
  rw [min_eq_right (by norm_num; omega), max_eq_right (by norm_num; omega)]

end Cert.Subsample

end
-- ==== Proof.lean ====
/- The whole claim, assembled: the three frames are the generated ones and the reference's run; the value claim is the
   two result arrays, each read at an index on both sides. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.LensArray
public import proofs.«01_k».proof.Proof.OutArray
public import proofs.«01_k».proof.Proof.RefValue
public import proofs.«01_k».proof.Proof.RefLens
public import Idealize.ShloMosaic.Lib.Quiescent

@[expose] public section

set_option maxRecDepth 16384

noncomputable section

namespace Cert.Proof

open Idealize.ShloMosaic Idealize.ShloMosaic.TcCoe Idealize.SL.Sem Cert.Subsample

/-- The one side condition of the precondition: a scalar spreads over sixteen. -/
theorem no_wrap_facts : Cert.Pre_no_wrap.Facts := ⟨by decide⟩

/-- The reference ends with its arguments as they were, and it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m ρ)

/-- The precondition at one length: it is below the largest word. -/
theorem below_of_no_wrap (X : FVec Ideal Cert.Pre_no_wrap.S16x2048x80 .f32) (L : IVec Cert.Pre_no_wrap.S16 32)
    (W0 : FVec Ideal Cert.Pre_no_wrap.S1024x80x3 .f32) (b0 : FVec Ideal Cert.Pre_no_wrap.S1024 .f32)
    (W1 : FVec Ideal Cert.Pre_no_wrap.S1024x512x3 .f32) (b1 : FVec Ideal Cert.Pre_no_wrap.S1024 .f32)
    (h : @Cert.Pre_no_wrap.fn no_wrap_facts Ideal _ X L W0 b0 W1 b1 = fun _ => 1#1) (B : Fin 16) :
    (L (ix1 B)).toInt < 2147483647 := by
  have hb : BitVec.ofBool ((L (ix1 B)).slt 2147483647#32) = 1#1 := congrFun h (ix1 B)
  have hs : (L (ix1 B)).slt 2147483647#32 = true := by
    cases hv : (L (ix1 B)).slt 2147483647#32
    · rw [hv] at hb; exact absurd hb (by decide)
    · rfl
  exact of_decide_eq_true hs

/-- The kernel and the reference end with equal results. -/
theorem values : @Cert.algebraic_KernelIdeal_ReferenceIdeal_pre_no_wrap Cert.KernelIdeal.Gen.facts Cert.ReferenceIdeal.Gen.facts no_wrap_facts := by
  intro m ρ m' ρ' hpre hagree
  refine ⟨fun c => Cert.KernelIdeal.Gen.W5 m ρ c (Proc.devRef .tc Cert.KernelIdeal.main_v24),
    fun c => Cert.KernelIdeal.Gen.W5 m ρ c (Proc.devRef .tc Cert.KernelIdeal.main_v20), results m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, -, a2, a3, a4, a5⟩ := hagree c
    refine funext fun i => ?_
    rw [eq_ix3 i]
    exact (reference_value m' c _ _ _ _ _ a0 a2 a3 a4 a5 (i 0) (i 1) (i 2)).trans
      (out_array m ρ c _ _ _ _ _ rfl rfl rfl rfl rfl (i 0) (i 1) (i 2)).symm
  · rw [(hagree c).2.1]
    refine Eq.trans (funext fun i : Cert.KernelIdeal.S16.Idx => ?_) (lens_array m ρ c).symm
    have e := lens_agree (m (c.tc.loc Cert.KernelIdeal.main_arg1)) (i 0) (below_of_no_wrap _ _ _ _ _ _ (hpre c) (i 0))
    rw [← eq_ix1 i] at e
    exact e

/-- Every claim of this certificate. -/
theorem claim : Cert.Claim :=
  ⟨Cert.Kernel.Gen.facts, Cert.KernelIdeal.Gen.facts, Cert.ReferenceIdeal.Gen.facts, no_wrap_facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, values⟩

end Cert.Proof

end
